-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rigid_poses [hPre_rigid_poses : Cert.Pre_rigid_poses.Facts] (m : (ℓ : Loc Cert.KernelIdeal.nD Cert.KernelIdeal.τ Cert.KernelIdeal.sig) → Buf (Elt Ideal) ℓ) : Prop :=
  ∀ c : Dev Cert.KernelIdeal.nD,
    (Cert.Pre_rigid_poses.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rigid_poses [hPre_rigid_poses : Cert.Pre_rigid_poses.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rigid_poses.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_rigid_poses [hKernelIdeal : Cert.KernelIdeal.Facts] [hPre_rigid_poses : Cert.Pre_rigid_poses.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rigid_poses m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_rigid_poses [hReferenceIdeal : Cert.ReferenceIdeal.Facts] [hPre_rigid_poses : Cert.Pre_rigid_poses.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rigid_poses m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_rigid_poses [hKernelIdeal : Cert.KernelIdeal.Facts] [hReferenceIdeal : Cert.ReferenceIdeal.Facts] [hPre_rigid_poses : Cert.Pre_rigid_poses.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rigid_poses m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v303) = v0 c
          ∧ r.2.mem ((c.tc : Thread Cert.ReferenceIdeal.nD Cert.ReferenceIdeal.τ).loc Cert.ReferenceIdeal.main_v302) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_rigid_poses : Cert.Pre_rigid_poses.Facts),
    quiescent_Kernel (hKernel := hKernel)
    ∧ quiescent_KernelIdeal (hKernelIdeal := hKernelIdeal)
    ∧ quiescent_KernelIdeal_pre_rigid_poses (hKernelIdeal := hKernelIdeal) (hPre_rigid_poses := hPre_rigid_poses)
    ∧ quiescent_ReferenceIdeal (hReferenceIdeal := hReferenceIdeal)
    ∧ quiescent_ReferenceIdeal_pre_rigid_poses (hReferenceIdeal := hReferenceIdeal) (hPre_rigid_poses := hPre_rigid_poses)
    ∧ preserves_Kernel_KernelIdeal
    ∧ algebraic_KernelIdeal_ReferenceIdeal_pre_rigid_poses (hKernelIdeal := hKernelIdeal) (hReferenceIdeal := hReferenceIdeal) (hPre_rigid_poses := hPre_rigid_poses)
-- ==== Pre_rigid_poses.lean ====
abbrev S2x4x128x256 : Shape := ⟨4, ![2, 4, 128, 256]⟩
abbrev S2x4x3x128x256 : Shape := ⟨5, ![2, 4, 3, 128, 256]⟩
abbrev S2x4x4x128x256 : Shape := ⟨5, ![2, 4, 4, 128, 256]⟩
abbrev S2x4x12x128x256 : Shape := ⟨5, ![2, 4, 12, 128, 256]⟩
abbrev S2x4x4x4 : Shape := ⟨4, ![2, 4, 4, 4]⟩
abbrev S_ : Shape := ⟨0, ![]⟩
abbrev S2x4x1x1 : Shape := ⟨4, ![2, 4, 1, 1]⟩
abbrev S2x4 : Shape := ⟨2, ![2, 4]⟩

class Facts : Prop where
  slices_S2x4x4x4_S2x4x1x1_0_0_0_0 : S2x4x4x4.Slices ![0, 0, 0, 0] S2x4x1x1
  shapeCasts_S2x4x1x1_S2x4 : S2x4x1x1.ShapeCasts S2x4
  slices_S2x4x4x4_S2x4x1x1_0_0_1_0 : S2x4x4x4.Slices ![0, 0, 1, 0] S2x4x1x1
  slices_S2x4x4x4_S2x4x1x1_0_0_2_0 : S2x4x4x4.Slices ![0, 0, 2, 0] S2x4x1x1
  bcast_S_S2x4 : S_.BroadcastsInDim S2x4 (![] : Fin 0 → Fin S2x4.rank)
  slices_S2x4x4x4_S2x4x1x1_0_0_0_1 : S2x4x4x4.Slices ![0, 0, 0, 1] S2x4x1x1
  slices_S2x4x4x4_S2x4x1x1_0_0_1_1 : S2x4x4x4.Slices ![0, 0, 1, 1] S2x4x1x1
  slices_S2x4x4x4_S2x4x1x1_0_0_2_1 : S2x4x4x4.Slices ![0, 0, 2, 1] S2x4x1x1
  slices_S2x4x4x4_S2x4x1x1_0_0_0_2 : S2x4x4x4.Slices ![0, 0, 0, 2] S2x4x1x1
  slices_S2x4x4x4_S2x4x1x1_0_0_1_2 : S2x4x4x4.Slices ![0, 0, 1, 2] S2x4x1x1
  slices_S2x4x4x4_S2x4x1x1_0_0_2_2 : S2x4x4x4.Slices ![0, 0, 2, 2] S2x4x1x1
  slices_S2x4x4x4_S2x4x1x1_0_0_3_0 : S2x4x4x4.Slices ![0, 0, 3, 0] S2x4x1x1
  slices_S2x4x4x4_S2x4x1x1_0_0_3_1 : S2x4x4x4.Slices ![0, 0, 3, 1] S2x4x1x1
  slices_S2x4x4x4_S2x4x1x1_0_0_3_2 : S2x4x4x4.Slices ![0, 0, 3, 2] S2x4x1x1
  slices_S2x4x4x4_S2x4x1x1_0_0_3_3 : S2x4x4x4.Slices ![0, 0, 3, 3] S2x4x1x1
  slices_S2x4x4x4_S2x4x1x1_0_0_0_3 : S2x4x4x4.Slices ![0, 0, 0, 3] S2x4x1x1
  slices_S2x4x4x4_S2x4x1x1_0_0_1_3 : S2x4x4x4.Slices ![0, 0, 1, 3] S2x4x1x1
  slices_S2x4x4x4_S2x4x1x1_0_0_2_3 : S2x4x4x4.Slices ![0, 0, 2, 3] S2x4x1x1

variable [Facts]

def fn_part7 {F : FTy → Type} [FloatOps F] (main_v139 : IVec S2x4 1) (main_v144 : IVec S2x4 1) (main_v154 : IVec S2x4 1) : IVec S2x4 1 :=
  let main_v155 : IVec S2x4 1 := andi main_v154 main_v139
  let main_v156 : IVec S2x4 1 := andi main_v155 main_v144
  main_v156

def fn_part6 {F : FTy → Type} [FloatOps F] (main_arg6 : FVec F S2x4x4x4 .f32) (main_v18 : IVec S2x4 1) (main_v37 : IVec S2x4 1) (main_v56 : IVec S2x4 1) (main_v75 : IVec S2x4 1) (main_v94 : IVec S2x4 1) (main_v113 : IVec S2x4 1) (main_v117 : IVec S2x4 1) (main_v121 : IVec S2x4 1) (main_v125 : IVec S2x4 1) (main_v129 : IVec S2x4 1) (main_v132 : FVec F S2x4 .f32) (main_cst_9 : FVec F S_ .f32) : IVec S2x4 1 :=
  let main_v133 : FVec F S2x4 .f32 := broadcastInDim S2x4 ![] bcast_S_S2x4 main_cst_9
  let main_v134 : IVec S2x4 1 := cmpf .olt main_v132 main_v133
  let main_v135 : FVec F S2x4x1x1 .f32 := (extractStridedSlice S2x4x1x1 ![0, 0, 1, 3] · slices_S2x4x4x4_S2x4x1x1_0_0_1_3) main_arg6
  let main_v136 : FVec F S2x4 .f32 := shapeCast S2x4 main_v135 shapeCasts_S2x4x1x1_S2x4
  let main_v137 : FVec F S2x4 .f32 := Host.absf main_v136
  let main_cst_10 : FVec F S_ .f32 := constant S_ .f32 0x7F800000#32
  let main_v138 : FVec F S2x4 .f32 := broadcastInDim S2x4 ![] bcast_S_S2x4 main_cst_10
  let main_v139 : IVec S2x4 1 := cmpf .olt main_v137 main_v138
  let main_v140 : FVec F S2x4x1x1 .f32 := (extractStridedSlice S2x4x1x1 ![0, 0, 2, 3] · slices_S2x4x4x4_S2x4x1x1_0_0_2_3) main_arg6
  let main_v141 : FVec F S2x4 .f32 := shapeCast S2x4 main_v140 shapeCasts_S2x4x1x1_S2x4
  let main_v142 : FVec F S2x4 .f32 := Host.absf main_v141
  let main_cst_11 : FVec F S_ .f32 := constant S_ .f32 0x7F800000#32
  let main_v143 : FVec F S2x4 .f32 := broadcastInDim S2x4 ![] bcast_S_S2x4 main_cst_11
  let main_v144 : IVec S2x4 1 := cmpf .olt main_v142 main_v143
  let main_v145 : IVec S2x4 1 := andi main_v18 main_v37
  let main_v146 : IVec S2x4 1 := andi main_v145 main_v56
  let main_v147 : IVec S2x4 1 := andi main_v146 main_v75
  let main_v148 : IVec S2x4 1 := andi main_v147 main_v94
  let main_v149 : IVec S2x4 1 := andi main_v148 main_v113
  let main_v150 : IVec S2x4 1 := andi main_v149 main_v117
  let main_v151 : IVec S2x4 1 := andi main_v150 main_v121
  let main_v152 : IVec S2x4 1 := andi main_v151 main_v125
  let main_v153 : IVec S2x4 1 := andi main_v152 main_v129
  let main_v154 : IVec S2x4 1 := andi main_v153 main_v134
  fn_part7 (F := F) main_v139 main_v144 main_v154

def fn_part5 {F : FTy → Type} [FloatOps F] (main_arg6 : FVec F S2x4x4x4 .f32) (main_v18 : IVec S2x4 1) (main_v37 : IVec S2x4 1) (main_v56 : IVec S2x4 1) (main_v75 : IVec S2x4 1) (main_v94 : IVec S2x4 1) (main_v113 : IVec S2x4 1) : IVec S2x4 1 :=
  let main_v114 : FVec F S2x4x1x1 .f32 := (extractStridedSlice S2x4x1x1 ![0, 0, 3, 0] · slices_S2x4x4x4_S2x4x1x1_0_0_3_0) main_arg6
  let main_v115 : FVec F S2x4 .f32 := shapeCast S2x4 main_v114 shapeCasts_S2x4x1x1_S2x4
  let main_cst_5 : FVec F S_ .f32 := constant S_ .f32 0x00000000#32
  let main_v116 : FVec F S2x4 .f32 := broadcastInDim S2x4 ![] bcast_S_S2x4 main_cst_5
  let main_v117 : IVec S2x4 1 := cmpf .oeq main_v115 main_v116
  let main_v118 : FVec F S2x4x1x1 .f32 := (extractStridedSlice S2x4x1x1 ![0, 0, 3, 1] · slices_S2x4x4x4_S2x4x1x1_0_0_3_1) main_arg6
  let main_v119 : FVec F S2x4 .f32 := shapeCast S2x4 main_v118 shapeCasts_S2x4x1x1_S2x4
  let main_cst_6 : FVec F S_ .f32 := constant S_ .f32 0x00000000#32
  let main_v120 : FVec F S2x4 .f32 := broadcastInDim S2x4 ![] bcast_S_S2x4 main_cst_6
  let main_v121 : IVec S2x4 1 := cmpf .oeq main_v119 main_v120
  let main_v122 : FVec F S2x4x1x1 .f32 := (extractStridedSlice S2x4x1x1 ![0, 0, 3, 2] · slices_S2x4x4x4_S2x4x1x1_0_0_3_2) main_arg6
  let main_v123 : FVec F S2x4 .f32 := shapeCast S2x4 main_v122 shapeCasts_S2x4x1x1_S2x4
  let main_cst_7 : FVec F S_ .f32 := constant S_ .f32 0x00000000#32
  let main_v124 : FVec F S2x4 .f32 := broadcastInDim S2x4 ![] bcast_S_S2x4 main_cst_7
  let main_v125 : IVec S2x4 1 := cmpf .oeq main_v123 main_v124
  let main_v126 : FVec F S2x4x1x1 .f32 := (extractStridedSlice S2x4x1x1 ![0, 0, 3, 3] · slices_S2x4x4x4_S2x4x1x1_0_0_3_3) main_arg6
  let main_v127 : FVec F S2x4 .f32 := shapeCast S2x4 main_v126 shapeCasts_S2x4x1x1_S2x4
  let main_cst_8 : FVec F S_ .f32 := constant S_ .f32 0x3F800000#32
  let main_v128 : FVec F S2x4 .f32 := broadcastInDim S2x4 ![] bcast_S_S2x4 main_cst_8
  let main_v129 : IVec S2x4 1 := cmpf .oeq main_v127 main_v128
  let main_v130 : FVec F S2x4x1x1 .f32 := (extractStridedSlice S2x4x1x1 ![0, 0, 0, 3] · slices_S2x4x4x4_S2x4x1x1_0_0_0_3) main_arg6
  let main_v131 : FVec F S2x4 .f32 := shapeCast S2x4 main_v130 shapeCasts_S2x4x1x1_S2x4
  let main_v132 : FVec F S2x4 .f32 := Host.absf main_v131
  let main_cst_9 : FVec F S_ .f32 := constant S_ .f32 0x7F800000#32
  fn_part6 (F := F) main_arg6 main_v18 main_v37 main_v56 main_v75 main_v94 main_v113 main_v117 main_v121 main_v125 main_v129 main_v132 main_cst_9

def fn_part4 {F : FTy → Type} [FloatOps F] (main_arg6 : FVec F S2x4x4x4 .f32) (main_v18 : IVec S2x4 1) (main_v37 : IVec S2x4 1) (main_v56 : IVec S2x4 1) (main_v75 : IVec S2x4 1) (main_v86 : FVec F S2x4 .f32) (main_v91 : FVec F S2x4 .f32) : IVec S2x4 1 :=
  let main_v92 : FVec F S2x4 .f32 := addf main_v86 main_v91
  let main_cst_3 : FVec F S_ .f32 := constant S_ .f32 0x00000000#32
  let main_v93 : FVec F S2x4 .f32 := broadcastInDim S2x4 ![] bcast_S_S2x4 main_cst_3
  let main_v94 : IVec S2x4 1 := cmpf .oeq main_v92 main_v93
  let main_v95 : FVec F S2x4x1x1 .f32 := (extractStridedSlice S2x4x1x1 ![0, 0, 0, 2] · slices_S2x4x4x4_S2x4x1x1_0_0_0_2) main_arg6
  let main_v96 : FVec F S2x4 .f32 := shapeCast S2x4 main_v95 shapeCasts_S2x4x1x1_S2x4
  let main_v97 : FVec F S2x4x1x1 .f32 := (extractStridedSlice S2x4x1x1 ![0, 0, 0, 2] · slices_S2x4x4x4_S2x4x1x1_0_0_0_2) main_arg6
  let main_v98 : FVec F S2x4 .f32 := shapeCast S2x4 main_v97 shapeCasts_S2x4x1x1_S2x4
  let main_v99 : FVec F S2x4 .f32 := mulf main_v96 main_v98
  let main_v100 : FVec F S2x4x1x1 .f32 := (extractStridedSlice S2x4x1x1 ![0, 0, 1, 2] · slices_S2x4x4x4_S2x4x1x1_0_0_1_2) main_arg6
  let main_v101 : FVec F S2x4 .f32 := shapeCast S2x4 main_v100 shapeCasts_S2x4x1x1_S2x4
  let main_v102 : FVec F S2x4x1x1 .f32 := (extractStridedSlice S2x4x1x1 ![0, 0, 1, 2] · slices_S2x4x4x4_S2x4x1x1_0_0_1_2) main_arg6
  let main_v103 : FVec F S2x4 .f32 := shapeCast S2x4 main_v102 shapeCasts_S2x4x1x1_S2x4
  let main_v104 : FVec F S2x4 .f32 := mulf main_v101 main_v103
  let main_v105 : FVec F S2x4 .f32 := addf main_v99 main_v104
  let main_v106 : FVec F S2x4x1x1 .f32 := (extractStridedSlice S2x4x1x1 ![0, 0, 2, 2] · slices_S2x4x4x4_S2x4x1x1_0_0_2_2) main_arg6
  let main_v107 : FVec F S2x4 .f32 := shapeCast S2x4 main_v106 shapeCasts_S2x4x1x1_S2x4
  let main_v108 : FVec F S2x4x1x1 .f32 := (extractStridedSlice S2x4x1x1 ![0, 0, 2, 2] · slices_S2x4x4x4_S2x4x1x1_0_0_2_2) main_arg6
  let main_v109 : FVec F S2x4 .f32 := shapeCast S2x4 main_v108 shapeCasts_S2x4x1x1_S2x4
  let main_v110 : FVec F S2x4 .f32 := mulf main_v107 main_v109
  let main_v111 : FVec F S2x4 .f32 := addf main_v105 main_v110
  let main_cst_4 : FVec F S_ .f32 := constant S_ .f32 0x3F800000#32
  let main_v112 : FVec F S2x4 .f32 := broadcastInDim S2x4 ![] bcast_S_S2x4 main_cst_4
  let main_v113 : IVec S2x4 1 := cmpf .oeq main_v111 main_v112
  fn_part5 (F := F) main_arg6 main_v18 main_v37 main_v56 main_v75 main_v94 main_v113

def fn_part3 {F : FTy → Type} [FloatOps F] (main_arg6 : FVec F S2x4x4x4 .f32) (main_v18 : IVec S2x4 1) (main_v37 : IVec S2x4 1) (main_v56 : IVec S2x4 1) (main_v67 : FVec F S2x4 .f32) (main_v68 : FVec F S2x4x1x1 .f32) : IVec S2x4 1 :=
  let main_v69 : FVec F S2x4 .f32 := shapeCast S2x4 main_v68 shapeCasts_S2x4x1x1_S2x4
  let main_v70 : FVec F S2x4x1x1 .f32 := (extractStridedSlice S2x4x1x1 ![0, 0, 2, 1] · slices_S2x4x4x4_S2x4x1x1_0_0_2_1) main_arg6
  let main_v71 : FVec F S2x4 .f32 := shapeCast S2x4 main_v70 shapeCasts_S2x4x1x1_S2x4
  let main_v72 : FVec F S2x4 .f32 := mulf main_v69 main_v71
  let main_v73 : FVec F S2x4 .f32 := addf main_v67 main_v72
  let main_cst_2 : FVec F S_ .f32 := constant S_ .f32 0x3F800000#32
  let main_v74 : FVec F S2x4 .f32 := broadcastInDim S2x4 ![] bcast_S_S2x4 main_cst_2
  let main_v75 : IVec S2x4 1 := cmpf .oeq main_v73 main_v74
  let main_v76 : FVec F S2x4x1x1 .f32 := (extractStridedSlice S2x4x1x1 ![0, 0, 0, 1] · slices_S2x4x4x4_S2x4x1x1_0_0_0_1) main_arg6
  let main_v77 : FVec F S2x4 .f32 := shapeCast S2x4 main_v76 shapeCasts_S2x4x1x1_S2x4
  let main_v78 : FVec F S2x4x1x1 .f32 := (extractStridedSlice S2x4x1x1 ![0, 0, 0, 2] · slices_S2x4x4x4_S2x4x1x1_0_0_0_2) main_arg6
  let main_v79 : FVec F S2x4 .f32 := shapeCast S2x4 main_v78 shapeCasts_S2x4x1x1_S2x4
  let main_v80 : FVec F S2x4 .f32 := mulf main_v77 main_v79
  let main_v81 : FVec F S2x4x1x1 .f32 := (extractStridedSlice S2x4x1x1 ![0, 0, 1, 1] · slices_S2x4x4x4_S2x4x1x1_0_0_1_1) main_arg6
  let main_v82 : FVec F S2x4 .f32 := shapeCast S2x4 main_v81 shapeCasts_S2x4x1x1_S2x4
  let main_v83 : FVec F S2x4x1x1 .f32 := (extractStridedSlice S2x4x1x1 ![0, 0, 1, 2] · slices_S2x4x4x4_S2x4x1x1_0_0_1_2) main_arg6
  let main_v84 : FVec F S2x4 .f32 := shapeCast S2x4 main_v83 shapeCasts_S2x4x1x1_S2x4
  let main_v85 : FVec F S2x4 .f32 := mulf main_v82 main_v84
  let main_v86 : FVec F S2x4 .f32 := addf main_v80 main_v85
  let main_v87 : FVec F S2x4x1x1 .f32 := (extractStridedSlice S2x4x1x1 ![0, 0, 2, 1] · slices_S2x4x4x4_S2x4x1x1_0_0_2_1) main_arg6
  let main_v88 : FVec F S2x4 .f32 := shapeCast S2x4 main_v87 shapeCasts_S2x4x1x1_S2x4
  let main_v89 : FVec F S2x4x1x1 .f32 := (extractStridedSlice S2x4x1x1 ![0, 0, 2, 2] · slices_S2x4x4x4_S2x4x1x1_0_0_2_2) main_arg6
  let main_v90 : FVec F S2x4 .f32 := shapeCast S2x4 main_v89 shapeCasts_S2x4x1x1_S2x4
  let main_v91 : FVec F S2x4 .f32 := mulf main_v88 main_v90
  fn_part4 (F := F) main_arg6 main_v18 main_v37 main_v56 main_v75 main_v86 main_v91

def fn_part2 {F : FTy → Type} [FloatOps F] (main_arg6 : FVec F S2x4x4x4 .f32) (main_v18 : IVec S2x4 1) (main_v37 : IVec S2x4 1) (main_v42 : FVec F S2x4 .f32) (main_v44 : FVec F S2x4 .f32) (main_v45 : FVec F S2x4x1x1 .f32) : IVec S2x4 1 :=
  let main_v46 : FVec F S2x4 .f32 := shapeCast S2x4 main_v45 shapeCasts_S2x4x1x1_S2x4
  let main_v47 : FVec F S2x4 .f32 := mulf main_v44 main_v46
  let main_v48 : FVec F S2x4 .f32 := addf main_v42 main_v47
  let main_v49 : FVec F S2x4x1x1 .f32 := (extractStridedSlice S2x4x1x1 ![0, 0, 2, 0] · slices_S2x4x4x4_S2x4x1x1_0_0_2_0) main_arg6
  let main_v50 : FVec F S2x4 .f32 := shapeCast S2x4 main_v49 shapeCasts_S2x4x1x1_S2x4
  let main_v51 : FVec F S2x4x1x1 .f32 := (extractStridedSlice S2x4x1x1 ![0, 0, 2, 2] · slices_S2x4x4x4_S2x4x1x1_0_0_2_2) main_arg6
  let main_v52 : FVec F S2x4 .f32 := shapeCast S2x4 main_v51 shapeCasts_S2x4x1x1_S2x4
  let main_v53 : FVec F S2x4 .f32 := mulf main_v50 main_v52
  let main_v54 : FVec F S2x4 .f32 := addf main_v48 main_v53
  let main_cst_1 : FVec F S_ .f32 := constant S_ .f32 0x00000000#32
  let main_v55 : FVec F S2x4 .f32 := broadcastInDim S2x4 ![] bcast_S_S2x4 main_cst_1
  let main_v56 : IVec S2x4 1 := cmpf .oeq main_v54 main_v55
  let main_v57 : FVec F S2x4x1x1 .f32 := (extractStridedSlice S2x4x1x1 ![0, 0, 0, 1] · slices_S2x4x4x4_S2x4x1x1_0_0_0_1) main_arg6
  let main_v58 : FVec F S2x4 .f32 := shapeCast S2x4 main_v57 shapeCasts_S2x4x1x1_S2x4
  let main_v59 : FVec F S2x4x1x1 .f32 := (extractStridedSlice S2x4x1x1 ![0, 0, 0, 1] · slices_S2x4x4x4_S2x4x1x1_0_0_0_1) main_arg6
  let main_v60 : FVec F S2x4 .f32 := shapeCast S2x4 main_v59 shapeCasts_S2x4x1x1_S2x4
  let main_v61 : FVec F S2x4 .f32 := mulf main_v58 main_v60
  let main_v62 : FVec F S2x4x1x1 .f32 := (extractStridedSlice S2x4x1x1 ![0, 0, 1, 1] · slices_S2x4x4x4_S2x4x1x1_0_0_1_1) main_arg6
  let main_v63 : FVec F S2x4 .f32 := shapeCast S2x4 main_v62 shapeCasts_S2x4x1x1_S2x4
  let main_v64 : FVec F S2x4x1x1 .f32 := (extractStridedSlice S2x4x1x1 ![0, 0, 1, 1] · slices_S2x4x4x4_S2x4x1x1_0_0_1_1) main_arg6
  let main_v65 : FVec F S2x4 .f32 := shapeCast S2x4 main_v64 shapeCasts_S2x4x1x1_S2x4
  let main_v66 : FVec F S2x4 .f32 := mulf main_v63 main_v65
  let main_v67 : FVec F S2x4 .f32 := addf main_v61 main_v66
  let main_v68 : FVec F S2x4x1x1 .f32 := (extractStridedSlice S2x4x1x1 ![0, 0, 2, 1] · slices_S2x4x4x4_S2x4x1x1_0_0_2_1) main_arg6
  fn_part3 (F := F) main_arg6 main_v18 main_v37 main_v56 main_v67 main_v68

def fn_part1 {F : FTy → Type} [FloatOps F] (main_arg6 : FVec F S2x4x4x4 .f32) (main_v18 : IVec S2x4 1) (main_v20 : FVec F S2x4 .f32) (main_v22 : FVec F S2x4 .f32) : IVec S2x4 1 :=
  let main_v23 : FVec F S2x4 .f32 := mulf main_v20 main_v22
  let main_v24 : FVec F S2x4x1x1 .f32 := (extractStridedSlice S2x4x1x1 ![0, 0, 1, 0] · slices_S2x4x4x4_S2x4x1x1_0_0_1_0) main_arg6
  let main_v25 : FVec F S2x4 .f32 := shapeCast S2x4 main_v24 shapeCasts_S2x4x1x1_S2x4
  let main_v26 : FVec F S2x4x1x1 .f32 := (extractStridedSlice S2x4x1x1 ![0, 0, 1, 1] · slices_S2x4x4x4_S2x4x1x1_0_0_1_1) main_arg6
  let main_v27 : FVec F S2x4 .f32 := shapeCast S2x4 main_v26 shapeCasts_S2x4x1x1_S2x4
  let main_v28 : FVec F S2x4 .f32 := mulf main_v25 main_v27
  let main_v29 : FVec F S2x4 .f32 := addf main_v23 main_v28
  let main_v30 : FVec F S2x4x1x1 .f32 := (extractStridedSlice S2x4x1x1 ![0, 0, 2, 0] · slices_S2x4x4x4_S2x4x1x1_0_0_2_0) main_arg6
  let main_v31 : FVec F S2x4 .f32 := shapeCast S2x4 main_v30 shapeCasts_S2x4x1x1_S2x4
  let main_v32 : FVec F S2x4x1x1 .f32 := (extractStridedSlice S2x4x1x1 ![0, 0, 2, 1] · slices_S2x4x4x4_S2x4x1x1_0_0_2_1) main_arg6
  let main_v33 : FVec F S2x4 .f32 := shapeCast S2x4 main_v32 shapeCasts_S2x4x1x1_S2x4
  let main_v34 : FVec F S2x4 .f32 := mulf main_v31 main_v33
  let main_v35 : FVec F S2x4 .f32 := addf main_v29 main_v34
  let main_cst_0 : FVec F S_ .f32 := constant S_ .f32 0x00000000#32
  let main_v36 : FVec F S2x4 .f32 := broadcastInDim S2x4 ![] bcast_S_S2x4 main_cst_0
  let main_v37 : IVec S2x4 1 := cmpf .oeq main_v35 main_v36
  let main_v38 : FVec F S2x4x1x1 .f32 := (extractStridedSlice S2x4x1x1 ![0, 0, 0, 0] · slices_S2x4x4x4_S2x4x1x1_0_0_0_0) main_arg6
  let main_v39 : FVec F S2x4 .f32 := shapeCast S2x4 main_v38 shapeCasts_S2x4x1x1_S2x4
  let main_v40 : FVec F S2x4x1x1 .f32 := (extractStridedSlice S2x4x1x1 ![0, 0, 0, 2] · slices_S2x4x4x4_S2x4x1x1_0_0_0_2) main_arg6
  let main_v41 : FVec F S2x4 .f32 := shapeCast S2x4 main_v40 shapeCasts_S2x4x1x1_S2x4
  let main_v42 : FVec F S2x4 .f32 := mulf main_v39 main_v41
  let main_v43 : FVec F S2x4x1x1 .f32 := (extractStridedSlice S2x4x1x1 ![0, 0, 1, 0] · slices_S2x4x4x4_S2x4x1x1_0_0_1_0) main_arg6
  let main_v44 : FVec F S2x4 .f32 := shapeCast S2x4 main_v43 shapeCasts_S2x4x1x1_S2x4
  let main_v45 : FVec F S2x4x1x1 .f32 := (extractStridedSlice S2x4x1x1 ![0, 0, 1, 2] · slices_S2x4x4x4_S2x4x1x1_0_0_1_2) main_arg6
  fn_part2 (F := F) main_arg6 main_v18 main_v37 main_v42 main_v44 main_v45

def fn {F : FTy → Type} [FloatOps F] (main_arg0 : FVec F S2x4x128x256 .f32) (main_arg1 : FVec F S2x4x3x128x256 .f32) (main_arg2 : FVec F S2x4x4x128x256 .f32) (main_arg3 : FVec F S2x4x128x256 .f32) (main_arg4 : FVec F S2x4x12x128x256 .f32) (main_arg5 : FVec F S2x4x128x256 .f32) (main_arg6 : FVec F S2x4x4x4 .f32) (main_arg7 : IVec S_ 32) (main_arg8 : IVec S_ 32) : IVec S2x4 1 :=
  let main_v0 : FVec F S2x4x1x1 .f32 := (extractStridedSlice S2x4x1x1 ![0, 0, 0, 0] · slices_S2x4x4x4_S2x4x1x1_0_0_0_0) main_arg6
  let main_v1 : FVec F S2x4 .f32 := shapeCast S2x4 main_v0 shapeCasts_S2x4x1x1_S2x4
  let main_v2 : FVec F S2x4x1x1 .f32 := (extractStridedSlice S2x4x1x1 ![0, 0, 0, 0] · slices_S2x4x4x4_S2x4x1x1_0_0_0_0) main_arg6
  let main_v3 : FVec F S2x4 .f32 := shapeCast S2x4 main_v2 shapeCasts_S2x4x1x1_S2x4
  let main_v4 : FVec F S2x4 .f32 := mulf main_v1 main_v3
  let main_v5 : FVec F S2x4x1x1 .f32 := (extractStridedSlice S2x4x1x1 ![0, 0, 1, 0] · slices_S2x4x4x4_S2x4x1x1_0_0_1_0) main_arg6
  let main_v6 : FVec F S2x4 .f32 := shapeCast S2x4 main_v5 shapeCasts_S2x4x1x1_S2x4
  let main_v7 : FVec F S2x4x1x1 .f32 := (extractStridedSlice S2x4x1x1 ![0, 0, 1, 0] · slices_S2x4x4x4_S2x4x1x1_0_0_1_0) main_arg6
  let main_v8 : FVec F S2x4 .f32 := shapeCast S2x4 main_v7 shapeCasts_S2x4x1x1_S2x4
  let main_v9 : FVec F S2x4 .f32 := mulf main_v6 main_v8
  let main_v10 : FVec F S2x4 .f32 := addf main_v4 main_v9
  let main_v11 : FVec F S2x4x1x1 .f32 := (extractStridedSlice S2x4x1x1 ![0, 0, 2, 0] · slices_S2x4x4x4_S2x4x1x1_0_0_2_0) main_arg6
  let main_v12 : FVec F S2x4 .f32 := shapeCast S2x4 main_v11 shapeCasts_S2x4x1x1_S2x4
  let main_v13 : FVec F S2x4x1x1 .f32 := (extractStridedSlice S2x4x1x1 ![0, 0, 2, 0] · slices_S2x4x4x4_S2x4x1x1_0_0_2_0) main_arg6
  let main_v14 : FVec F S2x4 .f32 := shapeCast S2x4 main_v13 shapeCasts_S2x4x1x1_S2x4
  let main_v15 : FVec F S2x4 .f32 := mulf main_v12 main_v14
  let main_v16 : FVec F S2x4 .f32 := addf main_v10 main_v15
  let main_cst : FVec F S_ .f32 := constant S_ .f32 0x3F800000#32
  let main_v17 : FVec F S2x4 .f32 := broadcastInDim S2x4 ![] bcast_S_S2x4 main_cst
  let main_v18 : IVec S2x4 1 := cmpf .oeq main_v16 main_v17
  let main_v19 : FVec F S2x4x1x1 .f32 := (extractStridedSlice S2x4x1x1 ![0, 0, 0, 0] · slices_S2x4x4x4_S2x4x1x1_0_0_0_0) main_arg6
  let main_v20 : FVec F S2x4 .f32 := shapeCast S2x4 main_v19 shapeCasts_S2x4x1x1_S2x4
  let main_v21 : FVec F S2x4x1x1 .f32 := (extractStridedSlice S2x4x1x1 ![0, 0, 0, 1] · slices_S2x4x4x4_S2x4x1x1_0_0_0_1) main_arg6
  let main_v22 : FVec F S2x4 .f32 := shapeCast S2x4 main_v21 shapeCasts_S2x4x1x1_S2x4
  fn_part1 (F := F) main_arg6 main_v18 main_v20 main_v22
-- ==== Kernel.lean ====
abbrev S2x4x128x256 : Shape := ⟨4, ![2, 4, 128, 256]⟩
abbrev S2x4x3x128x256 : Shape := ⟨5, ![2, 4, 3, 128, 256]⟩
abbrev S2x4x4x128x256 : Shape := ⟨5, ![2, 4, 4, 128, 256]⟩
abbrev S2x4x12x128x256 : Shape := ⟨5, ![2, 4, 12, 128, 256]⟩
abbrev S2x4x4x4 : Shape := ⟨4, ![2, 4, 4, 4]⟩
abbrev S_ : Shape := ⟨0, ![]⟩
abbrev S2x3x4x128x2x8x128 : Shape := ⟨7, ![2, 3, 4, 128, 2, 8, 128]⟩
abbrev S1x4x128x256 : Shape := ⟨4, ![1, 4, 128, 256]⟩
abbrev S1x4x3x128x256 : Shape := ⟨5, ![1, 4, 3, 128, 256]⟩
abbrev S1x4x4x128x256 : Shape := ⟨5, ![1, 4, 4, 128, 256]⟩
abbrev S1x4x12x128x256 : Shape := ⟨5, ![1, 4, 12, 128, 256]⟩
abbrev S1x3x4x128x2x8x128 : Shape := ⟨7, ![1, 3, 4, 128, 2, 8, 128]⟩
abbrev S128x256 : Shape := ⟨2, ![128, 256]⟩
abbrev S1x1x128x256 : Shape := ⟨4, ![1, 1, 128, 256]⟩
abbrev S1x1x1x1 : Shape := ⟨4, ![1, 1, 1, 1]⟩
abbrev S1x1x1x128x256 : Shape := ⟨5, ![1, 1, 1, 128, 256]⟩
abbrev S256x128 : Shape := ⟨2, ![256, 128]⟩
abbrev S1x256x128 : Shape := ⟨3, ![1, 256, 128]⟩
abbrev S8x256x128 : Shape := ⟨3, ![8, 256, 128]⟩
abbrev S256x8x128 : Shape := ⟨3, ![256, 8, 128]⟩
abbrev S128x2x8x128 : Shape := ⟨4, ![128, 2, 8, 128]⟩
abbrev S1x1x1x128x2x8x128 : Shape := ⟨7, ![1, 1, 1, 128, 2, 8, 128]⟩
abbrev S2x3x1024x8x128 : Shape := ⟨5, ![2, 3, 1024, 8, 128]⟩
abbrev S2x1024x128x3x8 : Shape := ⟨5, ![2, 1024, 128, 3, 8]⟩
abbrev S2x131072x24 : Shape := ⟨3, ![2, 131072, 24]⟩
abbrev S2x131072 : Shape := ⟨2, ![2, 131072]⟩

abbrev nBuf : Space → Nat
  | .hbm => 19
  | .vmem => 16
  | .smem => 1
  | _ => 0

abbrev bufTy : (tb : Table) → Fin (tcTables nBuf tb) → BufTy
  | .hbm, ⟨0, _⟩ => ⟨S2x4x128x256, .f32⟩
  | .hbm, ⟨1, _⟩ => ⟨S2x4x3x128x256, .f32⟩
  | .hbm, ⟨2, _⟩ => ⟨S2x4x4x128x256, .f32⟩
  | .hbm, ⟨3, _⟩ => ⟨S2x4x128x256, .f32⟩
  | .hbm, ⟨4, _⟩ => ⟨S2x4x12x128x256, .f32⟩
  | .hbm, ⟨5, _⟩ => ⟨S2x4x128x256, .f32⟩
  | .hbm, ⟨6, _⟩ => ⟨S2x4x4x4, .f32⟩
  | .hbm, ⟨7, _⟩ => ⟨S_, .i32⟩
  | .hbm, ⟨8, _⟩ => ⟨S_, .i32⟩
  | .hbm, ⟨9, _⟩ => ⟨S2x3x4x128x2x8x128, .f32⟩
  | .hbm, ⟨10, _⟩ => ⟨S2x4x128x256, .i8⟩
  | .hbm, ⟨11, _⟩ => ⟨S2x3x1024x8x128, .f32⟩
  | .hbm, ⟨12, _⟩ => ⟨S2x1024x128x3x8, .f32⟩
  | .hbm, ⟨13, _⟩ => ⟨S2x131072x24, .f32⟩
  | .hbm, ⟨14, _⟩ => ⟨S2x131072, .i8⟩
  | .hbm, ⟨15, _⟩ => ⟨S_, .i8⟩
  | .hbm, ⟨16, _⟩ => ⟨S2x131072, .i8⟩
  | .hbm, ⟨17, _⟩ => ⟨S2x131072, .i1⟩
  | .hbm, ⟨18, _⟩ => ⟨S2x131072, .i1⟩
  | .local _ .vmem, ⟨0, _⟩ => ⟨S1x4x128x256, .f32⟩
  | .local _ .vmem, ⟨1, _⟩ => ⟨S1x4x128x256, .f32⟩
  | .local _ .vmem, ⟨2, _⟩ => ⟨S1x4x3x128x256, .f32⟩
  | .local _ .vmem, ⟨3, _⟩ => ⟨S1x4x3x128x256, .f32⟩
  | .local _ .vmem, ⟨4, _⟩ => ⟨S1x4x4x128x256, .f32⟩
  | .local _ .vmem, ⟨5, _⟩ => ⟨S1x4x4x128x256, .f32⟩
  | .local _ .vmem, ⟨6, _⟩ => ⟨S1x4x128x256, .f32⟩
  | .local _ .vmem, ⟨7, _⟩ => ⟨S1x4x128x256, .f32⟩
  | .local _ .vmem, ⟨8, _⟩ => ⟨S1x4x12x128x256, .f32⟩
  | .local _ .vmem, ⟨9, _⟩ => ⟨S1x4x12x128x256, .f32⟩
  | .local _ .vmem, ⟨10, _⟩ => ⟨S1x4x128x256, .f32⟩
  | .local _ .vmem, ⟨11, _⟩ => ⟨S1x4x128x256, .f32⟩
  | .local _ .vmem, ⟨12, _⟩ => ⟨S1x3x4x128x2x8x128, .f32⟩
  | .local _ .vmem, ⟨13, _⟩ => ⟨S1x3x4x128x2x8x128, .f32⟩
  | .local _ .vmem, ⟨14, _⟩ => ⟨S1x4x128x256, .i8⟩
  | .local _ .vmem, ⟨15, _⟩ => ⟨S1x4x128x256, .i8⟩
  | .local _ .smem, ⟨0, _⟩ => ⟨S2x4x4x4, .f32⟩
  | _, _ => ⟨S2x4x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![2, 1, 1], ![false, false, false]⟩

def k0_off1 (i : grid0.Coords) (c0_i32 : BitVec 32) : Fin 4 → Nat :=
  let arg0 : BitVec 32 := BitVec.ofNat 32 (i 0).val
  let v38 : Index := Scalar.indexCast arg0
  let arg1 : BitVec 32 := BitVec.ofNat 32 (i 1).val
  let c4_i32 : BitVec 32 := 4#32
  let v36 : BitVec 32 := Scalar.muli arg1 c4_i32
  let v37 : BitVec 32 := Scalar.addi v36 c0_i32
  let v39 : Index := Scalar.indexCast v37
  let c0_12 : Index := 0#32
  let c0_13 : Index := 0#32
  ![v38.toNat, v39.toNat, 0, 0]
def k0_off2 (i : grid0.Coords) (c0_i32_15 : BitVec 32) : Fin 4 → Nat :=
  let arg0 : BitVec 32 := BitVec.ofNat 32 (i 0).val
  let v43 : Index := Scalar.indexCast arg0
  let arg1 : BitVec 32 := BitVec.ofNat 32 (i 1).val
  let c4_i32_14 : BitVec 32 := 4#32
  let v41 : BitVec 32 := Scalar.muli arg1 c4_i32_14
  let v42 : BitVec 32 := Scalar.addi v41 c0_i32_15
  let v44 : Index := Scalar.indexCast v42
  let c0_16 : Index := 0#32
  let c3 : Index := 3#32
  ![v43.toNat, v44.toNat, 0, 3]
def k0_off3 (i : grid0.Coords) (c0_i32_18 : BitVec 32) : Fin 4 → Nat :=
  let arg0 : BitVec 32 := BitVec.ofNat 32 (i 0).val
  let v49 : Index := Scalar.indexCast arg0
  let arg1 : BitVec 32 := BitVec.ofNat 32 (i 1).val
  let c4_i32_17 : BitVec 32 := 4#32
  let v47 : BitVec 32 := Scalar.muli arg1 c4_i32_17
  let v48 : BitVec 32 := Scalar.addi v47 c0_i32_18
  let v50 : Index := Scalar.indexCast v48
  let c1 : Index := 1#32
  let c0_19 : Index := 0#32
  ![v49.toNat, v50.toNat, 1, 0]
def k0_off4 (i : grid0.Coords) (c0_i32_21 : BitVec 32) : Fin 4 → Nat :=
  let arg0 : BitVec 32 := BitVec.ofNat 32 (i 0).val
  let v54 : Index := Scalar.indexCast arg0
  let arg1 : BitVec 32 := BitVec.ofNat 32 (i 1).val
  let c4_i32_20 : BitVec 32 := 4#32
  let v52 : BitVec 32 := Scalar.muli arg1 c4_i32_20
  let v53 : BitVec 32 := Scalar.addi v52 c0_i32_21
  let v55 : Index := Scalar.indexCast v53
  let c1_22 : Index := 1#32
  let c3_23 : Index := 3#32
  ![v54.toNat, v55.toNat, 1, 3]
def k0_off5 (i : grid0.Coords) (c0_i32_25 : BitVec 32) : Fin 4 → Nat :=
  let arg0 : BitVec 32 := BitVec.ofNat 32 (i 0).val
  let v61 : Index := Scalar.indexCast arg0
  let arg1 : BitVec 32 := BitVec.ofNat 32 (i 1).val
  let c4_i32_24 : BitVec 32 := 4#32
  let v59 : BitVec 32 := Scalar.muli arg1 c4_i32_24
  let v60 : BitVec 32 := Scalar.addi v59 c0_i32_25
  let v62 : Index := Scalar.indexCast v60
  let c2 : Index := 2#32
  let c0_26 : Index := 0#32
  ![v61.toNat, v62.toNat, 2, 0]
def k0_off6 (i : grid0.Coords) (c0_i32_28 : BitVec 32) : Fin 4 → Nat :=
  let arg0 : BitVec 32 := BitVec.ofNat 32 (i 0).val
  let v66 : Index := Scalar.indexCast arg0
  let arg1 : BitVec 32 := BitVec.ofNat 32 (i 1).val
  let c4_i32_27 : BitVec 32 := 4#32
  let v64 : BitVec 32 := Scalar.muli arg1 c4_i32_27
  let v65 : BitVec 32 := Scalar.addi v64 c0_i32_28
  let v67 : Index := Scalar.indexCast v65
  let c2_29 : Index := 2#32
  let c3_30 : Index := 3#32
  ![v66.toNat, v67.toNat, 2, 3]
def k0_off7 (i : grid0.Coords) (c0_i32_45 : BitVec 32) : Fin 4 → Nat :=
  let arg0 : BitVec 32 := BitVec.ofNat 32 (i 0).val
  let v99 : Index := Scalar.indexCast arg0
  let arg1 : BitVec 32 := BitVec.ofNat 32 (i 1).val
  let c4_i32_44 : BitVec 32 := 4#32
  let v97 : BitVec 32 := Scalar.muli arg1 c4_i32_44
  let v98 : BitVec 32 := Scalar.addi v97 c0_i32_45
  let v100 : Index := Scalar.indexCast v98
  let c0_46 : Index := 0#32
  let c1_47 : Index := 1#32
  ![v99.toNat, v100.toNat, 0, 1]
def k0_off8 (i : grid0.Coords) (c0_i32_53 : BitVec 32) : Fin 4 → Nat :=
  let arg0 : BitVec 32 := BitVec.ofNat 32 (i 0).val
  let v110 : Index := Scalar.indexCast arg0
  let arg1 : BitVec 32 := BitVec.ofNat 32 (i 1).val
  let c4_i32_52 : BitVec 32 := 4#32
  let v108 : BitVec 32 := Scalar.muli arg1 c4_i32_52
  let v109 : BitVec 32 := Scalar.addi v108 c0_i32_53
  let v111 : Index := Scalar.indexCast v109
  let c1_54 : Index := 1#32
  let c1_55 : Index := 1#32
  ![v110.toNat, v111.toNat, 1, 1]
def k0_off9 (i : grid0.Coords) (c0_i32_61 : BitVec 32) : Fin 4 → Nat :=
  let arg0 : BitVec 32 := BitVec.ofNat 32 (i 0).val
  let v122 : Index := Scalar.indexCast arg0
  let arg1 : BitVec 32 := BitVec.ofNat 32 (i 1).val
  let c4_i32_60 : BitVec 32 := 4#32
  let v120 : BitVec 32 := Scalar.muli arg1 c4_i32_60
  let v121 : BitVec 32 := Scalar.addi v120 c0_i32_61
  let v123 : Index := Scalar.indexCast v121
  let c2_62 : Index := 2#32
  let c1_63 : Index := 1#32
  ![v122.toNat, v123.toNat, 2, 1]
def k0_off10 (i : grid0.Coords) (c0_i32_82 : BitVec 32) : Fin 4 → Nat :=
  let arg0 : BitVec 32 := BitVec.ofNat 32 (i 0).val
  let v160 : Index := Scalar.indexCast arg0
  let arg1 : BitVec 32 := BitVec.ofNat 32 (i 1).val
  let c4_i32_81 : BitVec 32 := 4#32
  let v158 : BitVec 32 := Scalar.muli arg1 c4_i32_81
  let v159 : BitVec 32 := Scalar.addi v158 c0_i32_82
  let v161 : Index := Scalar.indexCast v159
  let c0_83 : Index := 0#32
  let c2_84 : Index := 2#32
  ![v160.toNat, v161.toNat, 0, 2]
def k0_off11 (i : grid0.Coords) (c0_i32_90 : BitVec 32) : Fin 4 → Nat :=
  let arg0 : BitVec 32 := BitVec.ofNat 32 (i 0).val
  let v171 : Index := Scalar.indexCast arg0
  let arg1 : BitVec 32 := BitVec.ofNat 32 (i 1).val
  let c4_i32_89 : BitVec 32 := 4#32
  let v169 : BitVec 32 := Scalar.muli arg1 c4_i32_89
  let v170 : BitVec 32 := Scalar.addi v169 c0_i32_90
  let v172 : Index := Scalar.indexCast v170
  let c1_91 : Index := 1#32
  let c2_92 : Index := 2#32
  ![v171.toNat, v172.toNat, 1, 2]
def k0_off12 (i : grid0.Coords) (c0_i32_98 : BitVec 32) : Fin 4 → Nat :=
  let arg0 : BitVec 32 := BitVec.ofNat 32 (i 0).val
  let v183 : Index := Scalar.indexCast arg0
  let arg1 : BitVec 32 := BitVec.ofNat 32 (i 1).val
  let c4_i32_97 : BitVec 32 := 4#32
  let v181 : BitVec 32 := Scalar.muli arg1 c4_i32_97
  let v182 : BitVec 32 := Scalar.addi v181 c0_i32_98
  let v184 : Index := Scalar.indexCast v182
  let c2_99 : Index := 2#32
  let c2_100 : Index := 2#32
  ![v183.toNat, v184.toNat, 2, 2]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 7 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, v1.toNat, c0_i32_0.toNat, c0_i32_1.toNat, c0_i32_2.toNat, c0_i32_3.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  let c0_i32_1 : BitVec 32 := 0#32
  ![arg0.toNat, v1.toNat, c0_i32.toNat, c0_i32_0.toNat]

abbrev stage0_0 : Fin 1 → Memref sig .tc .smem S2x4x4x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x4x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4x3x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4x4x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4x12x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x3x4x128x2x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x4x128x256 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S2x4x128x256 : Shape := ⟨4, ![2, 4, 128, 256]⟩
abbrev S2x4x3x128x256 : Shape := ⟨5, ![2, 4, 3, 128, 256]⟩
abbrev S2x4x4x128x256 : Shape := ⟨5, ![2, 4, 4, 128, 256]⟩
abbrev S2x4x12x128x256 : Shape := ⟨5, ![2, 4, 12, 128, 256]⟩
abbrev S2x4x4x4 : Shape := ⟨4, ![2, 4, 4, 4]⟩
abbrev S_ : Shape := ⟨0, ![]⟩
abbrev S256 : Shape := ⟨1, ![256]⟩
abbrev S128 : Shape := ⟨1, ![128]⟩
abbrev S128x256 : Shape := ⟨2, ![128, 256]⟩
abbrev S128x256x1 : Shape := ⟨3, ![128, 256, 1]⟩
abbrev S128x256x3 : Shape := ⟨3, ![128, 256, 3]⟩
abbrev S2x4x128x256x1 : Shape := ⟨5, ![2, 4, 128, 256, 1]⟩
abbrev S1x1x128x256x3 : Shape := ⟨5, ![1, 1, 128, 256, 3]⟩
abbrev S2x4x128x256x3 : Shape := ⟨5, ![2, 4, 128, 256, 3]⟩
abbrev S2x4x1x1 : Shape := ⟨4, ![2, 4, 1, 1]⟩
abbrev S2x4 : Shape := ⟨2, ![2, 4]⟩
abbrev S2x4x1 : Shape := ⟨3, ![2, 4, 1]⟩
abbrev S2x4x4 : Shape := ⟨3, ![2, 4, 4]⟩
abbrev S2x4x1x4 : Shape := ⟨4, ![2, 4, 1, 4]⟩
abbrev S2x4x3x4 : Shape := ⟨4, ![2, 4, 3, 4]⟩
abbrev S2x4x3x3 : Shape := ⟨4, ![2, 4, 3, 3]⟩
abbrev S2x4x3x1 : Shape := ⟨4, ![2, 4, 3, 1]⟩
abbrev S2x4x3 : Shape := ⟨3, ![2, 4, 3]⟩
abbrev S2x4x1x1x3 : Shape := ⟨5, ![2, 4, 1, 1, 3]⟩
abbrev S2x131072x3 : Shape := ⟨3, ![2, 131072, 3]⟩
abbrev S2x4x128x256x4 : Shape := ⟨5, ![2, 4, 128, 256, 4]⟩
abbrev S2x131072x4 : Shape := ⟨3, ![2, 131072, 4]⟩
abbrev S2x131072 : Shape := ⟨2, ![2, 131072]⟩
abbrev S2x131072x1 : Shape := ⟨3, ![2, 131072, 1]⟩
abbrev S2x4x128x256x12 : Shape := ⟨5, ![2, 4, 128, 256, 12]⟩
abbrev S2x131072x12 : Shape := ⟨3, ![2, 131072, 12]⟩
abbrev S2x131072x24 : Shape := ⟨3, ![2, 131072, 24]⟩

abbrev nBuf : Space → Nat
  | .hbm => 330
  | .vmem => 0
  | .smem => 0
  | _ => 0

abbrev hbmTy0_0 (i : Nat) : BufTy := match i % 128 with
  | 0 => ⟨S2x4x128x256, .f32⟩
  | 1 => ⟨S2x4x3x128x256, .f32⟩
  | 2 => ⟨S2x4x4x128x256, .f32⟩
  | 3 => ⟨S2x4x128x256, .f32⟩
  | 4 => ⟨S2x4x12x128x256, .f32⟩
  | 5 => ⟨S2x4x128x256, .f32⟩
  | 6 => ⟨S2x4x4x4, .f32⟩
  | 7 => ⟨S_, .i32⟩
  | 8 => ⟨S_, .i32⟩
  | 9 => ⟨S256, .f32⟩
  | 10 => ⟨S_, .f32⟩
  | 11 => ⟨S256, .f32⟩
  | 12 => ⟨S256, .f32⟩
  | 13 => ⟨S_, .f32⟩
  | 14 => ⟨S256, .f32⟩
  | 15 => ⟨S256, .f32⟩
  | 16 => ⟨S128, .f32⟩
  | 17 => ⟨S_, .f32⟩
  | 18 => ⟨S128, .f32⟩
  | 19 => ⟨S128, .f32⟩
  | 20 => ⟨S_, .f32⟩
  | 21 => ⟨S128, .f32⟩
  | 22 => ⟨S128, .f32⟩
  | 23 => ⟨S_, .f32⟩
  | 24 => ⟨S256, .f32⟩
  | 25 => ⟨S256, .f32⟩
  | 26 => ⟨S_, .f32⟩
  | 27 => ⟨S256, .f32⟩
  | 28 => ⟨S256, .f32⟩
  | 29 => ⟨S_, .f32⟩
  | 30 => ⟨S256, .f32⟩
  | 31 => ⟨S256, .f32⟩
  | 32 => ⟨S_, .f32⟩
  | 33 => ⟨S128, .f32⟩
  | 34 => ⟨S128, .f32⟩
  | 35 => ⟨S_, .f32⟩
  | 36 => ⟨S128, .f32⟩
  | 37 => ⟨S128, .f32⟩
  | 38 => ⟨S128x256, .f32⟩
  | 39 => ⟨S128x256, .f32⟩
  | 40 => ⟨S128x256, .f32⟩
  | 41 => ⟨S128x256, .f32⟩
  | 42 => ⟨S128x256, .f32⟩
  | 43 => ⟨S128x256, .f32⟩
  | 44 => ⟨S128x256, .f32⟩
  | 45 => ⟨S128x256, .f32⟩
  | 46 => ⟨S128x256, .f32⟩
  | 47 => ⟨S128x256x1, .f32⟩
  | 48 => ⟨S128x256x1, .f32⟩
  | 49 => ⟨S128x256x1, .f32⟩
  | 50 => ⟨S128x256x3, .f32⟩
  | 51 => ⟨S2x4x128x256x1, .f32⟩
  | 52 => ⟨S1x1x128x256x3, .f32⟩
  | 53 => ⟨S2x4x128x256x3, .f32⟩
  | 54 => ⟨S2x4x128x256x3, .f32⟩
  | 55 => ⟨S2x4x128x256x3, .f32⟩
  | 56 => ⟨S2x4x1x1, .f32⟩
  | 57 => ⟨S2x4, .f32⟩
  | 58 => ⟨S2x4x1x1, .f32⟩
  | 59 => ⟨S2x4, .f32⟩
  | 60 => ⟨S2x4x1x1, .f32⟩
  | 61 => ⟨S2x4, .f32⟩
  | 62 => ⟨S2x4x1x1, .f32⟩
  | 63 => ⟨S2x4, .f32⟩
  | 64 => ⟨S2x4x1x1, .f32⟩
  | 65 => ⟨S2x4, .f32⟩
  | 66 => ⟨S2x4x1x1, .f32⟩
  | 67 => ⟨S2x4, .f32⟩
  | 68 => ⟨S2x4x1x1, .f32⟩
  | 69 => ⟨S2x4, .f32⟩
  | 70 => ⟨S2x4x1x1, .f32⟩
  | 71 => ⟨S2x4, .f32⟩
  | 72 => ⟨S2x4x1x1, .f32⟩
  | 73 => ⟨S2x4, .f32⟩
  | 74 => ⟨S2x4x1x1, .f32⟩
  | 75 => ⟨S2x4, .f32⟩
  | 76 => ⟨S2x4x1x1, .f32⟩
  | 77 => ⟨S2x4, .f32⟩
  | 78 => ⟨S2x4x1x1, .f32⟩
  | 79 => ⟨S2x4, .f32⟩
  | 80 => ⟨S2x4x1x1, .f32⟩
  | 81 => ⟨S2x4, .f32⟩
  | 82 => ⟨S2x4x1x1, .f32⟩
  | 83 => ⟨S2x4, .f32⟩
  | 84 => ⟨S2x4x1x1, .f32⟩
  | 85 => ⟨S2x4, .f32⟩
  | 86 => ⟨S2x4x1x1, .f32⟩
  | 87 => ⟨S2x4, .f32⟩
  | 88 => ⟨S2x4, .f32⟩
  | 89 => ⟨S2x4, .f32⟩
  | 90 => ⟨S2x4, .f32⟩
  | 91 => ⟨S2x4, .f32⟩
  | 92 => ⟨S2x4, .f32⟩
  | 93 => ⟨S2x4, .f32⟩
  | 94 => ⟨S2x4, .f32⟩
  | 95 => ⟨S2x4, .f32⟩
  | 96 => ⟨S2x4, .f32⟩
  | 97 => ⟨S2x4, .f32⟩
  | 98 => ⟨S2x4, .f32⟩
  | 99 => ⟨S2x4, .f32⟩
  | 100 => ⟨S2x4, .f32⟩
  | 101 => ⟨S2x4, .f32⟩
  | 102 => ⟨S2x4, .f32⟩
  | 103 => ⟨S2x4, .f32⟩
  | 104 => ⟨S2x4, .f32⟩
  | 105 => ⟨S2x4, .f32⟩
  | 106 => ⟨S2x4, .f32⟩
  | 107 => ⟨S2x4, .f32⟩
  | 108 => ⟨S2x4, .f32⟩
  | 109 => ⟨S2x4, .f32⟩
  | 110 => ⟨S2x4, .f32⟩
  | 111 => ⟨S2x4, .f32⟩
  | 112 => ⟨S2x4, .f32⟩
  | 113 => ⟨S2x4, .f32⟩
  | 114 => ⟨S2x4, .f32⟩
  | 115 => ⟨S2x4, .f32⟩
  | 116 => ⟨S2x4, .f32⟩
  | 117 => ⟨S2x4, .f32⟩
  | 118 => ⟨S2x4, .f32⟩
  | 119 => ⟨S2x4, .f32⟩
  | 120 => ⟨S2x4, .f32⟩
  | 121 => ⟨S2x4, .f32⟩
  | 122 => ⟨S2x4, .f32⟩
  | 123 => ⟨S2x4, .f32⟩
  | 124 => ⟨S2x4, .f32⟩
  | 125 => ⟨S2x4, .f32⟩
  | 126 => ⟨S2x4, .f32⟩
  | 127 => ⟨S2x4, .f32⟩
  | _ => ⟨S2x4x128x256, .f32⟩

abbrev hbmTy0_1 (i : Nat) : BufTy := match i % 128 with
  | 0 => ⟨S2x4, .f32⟩
  | 1 => ⟨S2x4, .f32⟩
  | 2 => ⟨S2x4, .f32⟩
  | 3 => ⟨S2x4, .f32⟩
  | 4 => ⟨S2x4, .f32⟩
  | 5 => ⟨S2x4, .f32⟩
  | 6 => ⟨S2x4, .f32⟩
  | 7 => ⟨S2x4, .f32⟩
  | 8 => ⟨S2x4, .f32⟩
  | 9 => ⟨S2x4, .f32⟩
  | 10 => ⟨S2x4, .f32⟩
  | 11 => ⟨S2x4, .f32⟩
  | 12 => ⟨S2x4, .f32⟩
  | 13 => ⟨S2x4, .f32⟩
  | 14 => ⟨S2x4, .f32⟩
  | 15 => ⟨S2x4, .f32⟩
  | 16 => ⟨S2x4, .f32⟩
  | 17 => ⟨S2x4, .f32⟩
  | 18 => ⟨S2x4, .f32⟩
  | 19 => ⟨S2x4, .f32⟩
  | 20 => ⟨S2x4, .f32⟩
  | 21 => ⟨S2x4, .f32⟩
  | 22 => ⟨S2x4, .f32⟩
  | 23 => ⟨S2x4, .f32⟩
  | 24 => ⟨S2x4, .f32⟩
  | 25 => ⟨S2x4, .f32⟩
  | 26 => ⟨S2x4, .f32⟩
  | 27 => ⟨S2x4, .f32⟩
  | 28 => ⟨S2x4, .f32⟩
  | 29 => ⟨S2x4, .f32⟩
  | 30 => ⟨S2x4, .f32⟩
  | 31 => ⟨S2x4, .f32⟩
  | 32 => ⟨S2x4, .f32⟩
  | 33 => ⟨S2x4, .f32⟩
  | 34 => ⟨S2x4, .f32⟩
  | 35 => ⟨S2x4, .f32⟩
  | 36 => ⟨S2x4, .f32⟩
  | 37 => ⟨S2x4, .f32⟩
  | 38 => ⟨S2x4, .f32⟩
  | 39 => ⟨S2x4, .f32⟩
  | 40 => ⟨S2x4, .f32⟩
  | 41 => ⟨S2x4, .f32⟩
  | 42 => ⟨S2x4, .f32⟩
  | 43 => ⟨S2x4, .f32⟩
  | 44 => ⟨S2x4, .f32⟩
  | 45 => ⟨S2x4, .f32⟩
  | 46 => ⟨S2x4, .f32⟩
  | 47 => ⟨S2x4, .f32⟩
  | 48 => ⟨S2x4, .f32⟩
  | 49 => ⟨S2x4, .f32⟩
  | 50 => ⟨S2x4, .f32⟩
  | 51 => ⟨S2x4, .f32⟩
  | 52 => ⟨S2x4, .f32⟩
  | 53 => ⟨S2x4, .f32⟩
  | 54 => ⟨S2x4, .f32⟩
  | 55 => ⟨S2x4, .f32⟩
  | 56 => ⟨S2x4, .f32⟩
  | 57 => ⟨S2x4, .f32⟩
  | 58 => ⟨S2x4, .f32⟩
  | 59 => ⟨S2x4, .f32⟩
  | 60 => ⟨S2x4, .f32⟩
  | 61 => ⟨S2x4, .f32⟩
  | 62 => ⟨S2x4, .f32⟩
  | 63 => ⟨S2x4, .f32⟩
  | 64 => ⟨S2x4, .f32⟩
  | 65 => ⟨S2x4, .f32⟩
  | 66 => ⟨S2x4, .f32⟩
  | 67 => ⟨S2x4, .f32⟩
  | 68 => ⟨S2x4, .f32⟩
  | 69 => ⟨S2x4, .f32⟩
  | 70 => ⟨S2x4, .f32⟩
  | 71 => ⟨S2x4, .f32⟩
  | 72 => ⟨S2x4, .f32⟩
  | 73 => ⟨S2x4, .f32⟩
  | 74 => ⟨S2x4, .f32⟩
  | 75 => ⟨S2x4, .f32⟩
  | 76 => ⟨S2x4, .f32⟩
  | 77 => ⟨S2x4, .f32⟩
  | 78 => ⟨S2x4, .f32⟩
  | 79 => ⟨S2x4, .f32⟩
  | 80 => ⟨S2x4, .f32⟩
  | 81 => ⟨S2x4, .f32⟩
  | 82 => ⟨S2x4, .f32⟩
  | 83 => ⟨S2x4, .f32⟩
  | 84 => ⟨S2x4, .f32⟩
  | 85 => ⟨S2x4, .f32⟩
  | 86 => ⟨S2x4, .f32⟩
  | 87 => ⟨S2x4, .f32⟩
  | 88 => ⟨S2x4, .f32⟩
  | 89 => ⟨S2x4, .f32⟩
  | 90 => ⟨S2x4, .f32⟩
  | 91 => ⟨S2x4, .f32⟩
  | 92 => ⟨S2x4, .f32⟩
  | 93 => ⟨S2x4, .f32⟩
  | 94 => ⟨S2x4, .f32⟩
  | 95 => ⟨S2x4, .f32⟩
  | 96 => ⟨S2x4, .f32⟩
  | 97 => ⟨S2x4, .f32⟩
  | 98 => ⟨S2x4, .f32⟩
  | 99 => ⟨S2x4, .f32⟩
  | 100 => ⟨S2x4, .f32⟩
  | 101 => ⟨S2x4, .f32⟩
  | 102 => ⟨S2x4, .f32⟩
  | 103 => ⟨S2x4, .f32⟩
  | 104 => ⟨S2x4, .f32⟩
  | 105 => ⟨S2x4, .f32⟩
  | 106 => ⟨S2x4, .f32⟩
  | 107 => ⟨S2x4, .f32⟩
  | 108 => ⟨S2x4, .f32⟩
  | 109 => ⟨S2x4, .f32⟩
  | 110 => ⟨S2x4, .f32⟩
  | 111 => ⟨S2x4, .f32⟩
  | 112 => ⟨S2x4, .f32⟩
  | 113 => ⟨S2x4, .f32⟩
  | 114 => ⟨S2x4, .f32⟩
  | 115 => ⟨S2x4, .f32⟩
  | 116 => ⟨S2x4, .f32⟩
  | 117 => ⟨S2x4, .f32⟩
  | 118 => ⟨S2x4, .f32⟩
  | 119 => ⟨S2x4, .f32⟩
  | 120 => ⟨S2x4, .f32⟩
  | 121 => ⟨S2x4, .f32⟩
  | 122 => ⟨S2x4, .f32⟩
  | 123 => ⟨S2x4, .f32⟩
  | 124 => ⟨S2x4, .f32⟩
  | 125 => ⟨S2x4, .f32⟩
  | 126 => ⟨S2x4, .f32⟩
  | 127 => ⟨S2x4, .f32⟩
  | _ => ⟨S2x4x128x256, .f32⟩

abbrev hbmTy0_2 (i : Nat) : BufTy := match i % 128 with
  | 0 => ⟨S2x4, .f32⟩
  | 1 => ⟨S2x4, .f32⟩
  | 2 => ⟨S2x4, .f32⟩
  | 3 => ⟨S2x4, .f32⟩
  | 4 => ⟨S2x4, .f32⟩
  | 5 => ⟨S2x4, .f32⟩
  | 6 => ⟨S2x4, .f32⟩
  | 7 => ⟨S_, .f32⟩
  | 8 => ⟨S2x4, .f32⟩
  | 9 => ⟨S2x4, .f32⟩
  | 10 => ⟨S2x4, .f32⟩
  | 11 => ⟨S2x4, .f32⟩
  | 12 => ⟨S2x4, .f32⟩
  | 13 => ⟨S2x4, .f32⟩
  | 14 => ⟨S2x4, .f32⟩
  | 15 => ⟨S2x4, .f32⟩
  | 16 => ⟨S2x4x1, .f32⟩
  | 17 => ⟨S2x4x1, .f32⟩
  | 18 => ⟨S2x4x1, .f32⟩
  | 19 => ⟨S2x4x1, .f32⟩
  | 20 => ⟨S2x4x4, .f32⟩
  | 21 => ⟨S2x4x1, .f32⟩
  | 22 => ⟨S2x4x1, .f32⟩
  | 23 => ⟨S2x4x1, .f32⟩
  | 24 => ⟨S2x4x1, .f32⟩
  | 25 => ⟨S2x4x4, .f32⟩
  | 26 => ⟨S2x4x1, .f32⟩
  | 27 => ⟨S2x4x1, .f32⟩
  | 28 => ⟨S2x4x1, .f32⟩
  | 29 => ⟨S2x4x1, .f32⟩
  | 30 => ⟨S2x4x4, .f32⟩
  | 31 => ⟨S2x4x1x4, .f32⟩
  | 32 => ⟨S2x4x1x4, .f32⟩
  | 33 => ⟨S2x4x1x4, .f32⟩
  | 34 => ⟨S2x4x3x4, .f32⟩
  | 35 => ⟨S2x4x1x1, .f32⟩
  | 36 => ⟨S2x4x3x4, .f32⟩
  | 37 => ⟨S2x4x3x4, .f32⟩
  | 38 => ⟨S2x4x3x3, .f32⟩
  | 39 => ⟨S2x4x3x1, .f32⟩
  | 40 => ⟨S2x4x3, .f32⟩
  | 41 => ⟨S2x4x128x256x3, .f32⟩
  | 42 => ⟨S2x4x1x1x3, .f32⟩
  | 43 => ⟨S2x4x128x256x3, .f32⟩
  | 44 => ⟨S2x4x128x256x3, .f32⟩
  | 45 => ⟨S2x131072x3, .f32⟩
  | 46 => ⟨S2x4x128x256x3, .f32⟩
  | 47 => ⟨S2x131072x3, .f32⟩
  | 48 => ⟨S2x4x128x256x4, .f32⟩
  | 49 => ⟨S2x131072x4, .f32⟩
  | 50 => ⟨S2x131072x4, .f32⟩
  | 51 => ⟨S_, .f32⟩
  | 52 => ⟨S2x131072, .f32⟩
  | 53 => ⟨S2x131072x1, .f32⟩
  | 54 => ⟨S2x131072x1, .f32⟩
  | 55 => ⟨S_, .f32⟩
  | 56 => ⟨S2x131072x1, .f32⟩
  | 57 => ⟨S2x131072x1, .f32⟩
  | 58 => ⟨S2x131072x4, .f32⟩
  | 59 => ⟨S2x131072x4, .f32⟩
  | 60 => ⟨S2x131072x1, .f32⟩
  | 61 => ⟨S2x131072x1, .f32⟩
  | 62 => ⟨S2x4x128x256x12, .f32⟩
  | 63 => ⟨S2x131072x12, .f32⟩
  | 64 => ⟨S2x131072, .f32⟩
  | 65 => ⟨S_, .f32⟩
  | 66 => ⟨S2x131072, .f32⟩
  | 67 => ⟨S2x131072, .i1⟩
  | 68 => ⟨S2x131072, .f32⟩
  | 69 => ⟨S_, .f32⟩
  | 70 => ⟨S2x131072, .f32⟩
  | 71 => ⟨S2x131072, .i1⟩
  | 72 => ⟨S2x131072, .i1⟩
  | 73 => ⟨S2x131072x24, .f32⟩
  | _ => ⟨S2x4x128x256, .f32⟩

abbrev hbmTy (i : Nat) : BufTy := match i / 128 with
  | 0 => hbmTy0_0 i
  | 1 => hbmTy0_1 i
  | 2 => hbmTy0_2 i
  | _ => ⟨S2x4x128x256, .f32⟩

abbrev bufTy : (tb : Table) → Fin (tcTables nBuf tb) → BufTy
  | .hbm, ⟨i, _⟩ => hbmTy i
  | _, _ => ⟨S2x4x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_v15 : Ref sig .tc := ⟨.hbm, 31, rfl⟩
abbrev main_cst_6 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_v224 : Ref sig .tc := ⟨.hbm, 242, rfl⟩
abbrev main_v225 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_v229 : Ref sig .tc := ⟨.hbm, 247, rfl⟩
abbrev main_v230 : Ref sig .tc := ⟨.hbm, 248, rfl⟩
abbrev main_v231 : Ref sig .tc := ⟨.hbm, 249, rfl⟩
abbrev main_v232 : Ref sig .tc := ⟨.hbm, 250, rfl⟩
abbrev main_v233 : Ref sig .tc := ⟨.hbm, 251, rfl⟩
abbrev main_v234 : Ref sig .tc := ⟨.hbm, 252, rfl⟩
abbrev main_v235 : Ref sig .tc := ⟨.hbm, 253, rfl⟩
abbrev main_v236 : Ref sig .tc := ⟨.hbm, 254, rfl⟩
abbrev main_v237 : Ref sig .tc := ⟨.hbm, 255, rfl⟩
abbrev main_v238 : Ref sig .tc := ⟨.hbm, 256, rfl⟩
abbrev main_v239 : Ref sig .tc := ⟨.hbm, 257, rfl⟩
abbrev main_v240 : Ref sig .tc := ⟨.hbm, 258, rfl⟩
abbrev main_v241 : Ref sig .tc := ⟨.hbm, 259, rfl⟩
abbrev main_v242 : Ref sig .tc := ⟨.hbm, 260, rfl⟩
abbrev main_v243 : Ref sig .tc := ⟨.hbm, 261, rfl⟩
abbrev main_v244 : Ref sig .tc := ⟨.hbm, 262, rfl⟩
abbrev main_cst_8 : Ref sig .tc := ⟨.hbm, 263, rfl⟩
abbrev main_v245 : Ref sig .tc := ⟨.hbm, 264, rfl⟩
abbrev main_v246 : Ref sig .tc := ⟨.hbm, 265, rfl⟩
abbrev main_v247 : Ref sig .tc := ⟨.hbm, 266, rfl⟩
abbrev main_v248 : Ref sig .tc := ⟨.hbm, 267, rfl⟩
abbrev main_v249 : Ref sig .tc := ⟨.hbm, 268, rfl⟩
abbrev main_v250 : Ref sig .tc := ⟨.hbm, 269, rfl⟩
abbrev main_v251 : Ref sig .tc := ⟨.hbm, 270, rfl⟩
abbrev main_v252 : Ref sig .tc := ⟨.hbm, 271, rfl⟩
abbrev main_v253 : Ref sig .tc := ⟨.hbm, 272, rfl⟩
abbrev main_v254 : Ref sig .tc := ⟨.hbm, 273, rfl⟩
abbrev main_v255 : Ref sig .tc := ⟨.hbm, 274, rfl⟩
abbrev main_v256 : Ref sig .tc := ⟨.hbm, 275, rfl⟩
abbrev main_v257 : Ref sig .tc := ⟨.hbm, 276, rfl⟩
abbrev main_v258 : Ref sig .tc := ⟨.hbm, 277, rfl⟩
abbrev main_v259 : Ref sig .tc := ⟨.hbm, 278, rfl⟩
abbrev main_v260 : Ref sig .tc := ⟨.hbm, 279, rfl⟩
abbrev main_v261 : Ref sig .tc := ⟨.hbm, 280, rfl⟩
abbrev main_v262 : Ref sig .tc := ⟨.hbm, 281, rfl⟩
abbrev main_v263 : Ref sig .tc := ⟨.hbm, 282, rfl⟩
abbrev main_v264 : Ref sig .tc := ⟨.hbm, 283, rfl⟩
abbrev main_v265 : Ref sig .tc := ⟨.hbm, 284, rfl⟩
abbrev main_v266 : Ref sig .tc := ⟨.hbm, 285, rfl⟩
abbrev main_v267 : Ref sig .tc := ⟨.hbm, 286, rfl⟩
abbrev main_v268 : Ref sig .tc := ⟨.hbm, 287, rfl⟩
abbrev main_v269 : Ref sig .tc := ⟨.hbm, 288, rfl⟩
abbrev main_v270 : Ref sig .tc := ⟨.hbm, 289, rfl⟩
abbrev main_v271 : Ref sig .tc := ⟨.hbm, 290, rfl⟩
abbrev main_v272 : Ref sig .tc := ⟨.hbm, 291, rfl⟩
abbrev main_v273 : Ref sig .tc := ⟨.hbm, 292, rfl⟩
abbrev main_v274 : Ref sig .tc := ⟨.hbm, 293, rfl⟩
abbrev main_v275 : Ref sig .tc := ⟨.hbm, 294, rfl⟩
abbrev main_v276 : Ref sig .tc := ⟨.hbm, 295, rfl⟩
abbrev main_v277 : Ref sig .tc := ⟨.hbm, 296, rfl⟩
abbrev main_v278 : Ref sig .tc := ⟨.hbm, 297, rfl⟩
abbrev main_v279 : Ref sig .tc := ⟨.hbm, 298, rfl⟩
abbrev main_v280 : Ref sig .tc := ⟨.hbm, 299, rfl⟩
abbrev main_v281 : Ref sig .tc := ⟨.hbm, 300, rfl⟩
abbrev main_v282 : Ref sig .tc := ⟨.hbm, 301, rfl⟩
abbrev main_v283 : Ref sig .tc := ⟨.hbm, 302, rfl⟩
abbrev main_v284 : Ref sig .tc := ⟨.hbm, 303, rfl⟩
abbrev main_v285 : Ref sig .tc := ⟨.hbm, 304, rfl⟩
abbrev main_v286 : Ref sig .tc := ⟨.hbm, 305, rfl⟩
abbrev main_call0_v0 : Ref sig .tc := ⟨.hbm, 306, rfl⟩
abbrev main_call0_cst : Ref sig .tc := ⟨.hbm, 307, rfl⟩
abbrev main_call0_v1 : Ref sig .tc := ⟨.hbm, 308, rfl⟩
abbrev main_call0_v2 : Ref sig .tc := ⟨.hbm, 309, rfl⟩
abbrev main_v287 : Ref sig .tc := ⟨.hbm, 310, rfl⟩
abbrev main_cst_9 : Ref sig .tc := ⟨.hbm, 311, rfl⟩
abbrev main_v288 : Ref sig .tc := ⟨.hbm, 312, rfl⟩
abbrev main_v289 : Ref sig .tc := ⟨.hbm, 313, rfl⟩
abbrev main_v290 : Ref sig .tc := ⟨.hbm, 314, rfl⟩
abbrev main_v291 : Ref sig .tc := ⟨.hbm, 315, rfl⟩
abbrev main_v292 : Ref sig .tc := ⟨.hbm, 316, rfl⟩
abbrev main_v293 : Ref sig .tc := ⟨.hbm, 317, rfl⟩
abbrev main_v294 : Ref sig .tc := ⟨.hbm, 318, rfl⟩
abbrev main_v295 : Ref sig .tc := ⟨.hbm, 319, rfl⟩
abbrev main_v296 : Ref sig .tc := ⟨.hbm, 320, rfl⟩
abbrev main_cst_10 : Ref sig .tc := ⟨.hbm, 321, rfl⟩
abbrev main_v297 : Ref sig .tc := ⟨.hbm, 322, rfl⟩
abbrev main_v298 : Ref sig .tc := ⟨.hbm, 323, rfl⟩
abbrev main_v299 : Ref sig .tc := ⟨.hbm, 324, rfl⟩
abbrev main_cst_11 : Ref sig .tc := ⟨.hbm, 325, rfl⟩
abbrev main_v300 : Ref sig .tc := ⟨.hbm, 326, rfl⟩
abbrev main_v301 : Ref sig .tc := ⟨.hbm, 327, rfl⟩
abbrev main_v302 : Ref sig .tc := ⟨.hbm, 328, rfl⟩
abbrev main_v303 : Ref sig .tc := ⟨.hbm, 329, rfl⟩

abbrev nD : Nat := 1
abbrev τ : Topo := Topo.v7x

variable {F : FTy → Type} [FloatOps F]
-- ==== Proof.Block.lean ====
/-
What one grid point leaves in its two output blocks. The kernel writes twelve tiles of the fused block (three groups of
eight planes for each of four views) and four mask planes; here each is written once, for any view, out of the payloads
of the first view, and the recorded stores are shown to be these.
-/
module

public import proofs.«01_k».proof.Proof.Gen.KernelIdeal.Frame

@[expose] public section

set_option maxRecDepth 16384

noncomputable section

namespace Cert.KernelIdeal.Own

open Idealize.ShloMosaic Idealize.ShloMosaic.TcCoe Idealize.ShloMosaic.Tactic
open Idealize.SL.Sem
open Cert.KernelIdeal Cert.KernelIdeal.Gen

variable {F : FTy → Type} [FloatOps F]

/-- The word offsets of entry `(a, b)` of the pose of view `v` at grid point `i`, as the kernel computes them. -/
abbrev wordOff (i : grid0.Coords) (v a b : Fin 4) : Fin 4 → Nat :=
  ![BitVec.toNat (Scalar.indexCast (BitVec.ofNat 32 (i 0).val)),
    BitVec.toNat (Scalar.indexCast (Scalar.addi (Scalar.muli (BitVec.ofNat 32 (i 1).val) 4#32) (BitVec.ofNat 32 v.val))), a.val, b.val]

/-- They are the batch, the view, the row and the column. -/
theorem wordOff_eq (i : grid0.Coords) (v a b : Fin 4) : wordOff i v a b = ![(i 0).val, v.val, a.val, b.val] := by
  have h0 : (i 0).val < 2 := (i 0).isLt
  have h1 : (i 1).val < 1 := (i 1).isLt
  have e0 : BitVec.toNat (Scalar.indexCast (BitVec.ofNat 32 (i 0).val)) = (i 0).val := by
    generalize (i 0).val = n at h0
    rcases (by omega : n = 0 ∨ n = 1) with rfl | rfl <;> rfl
  have e1 : BitVec.toNat (Scalar.indexCast (Scalar.addi (Scalar.muli (BitVec.ofNat 32 (i 1).val) 4#32) (BitVec.ofNat 32 v.val))) = v.val := by
    have : (i 1).val = 0 := by omega
    rw [this]
    fin_cases v <;> rfl
  unfold wordOff
  rw [e0, e1]

/-- So the word lies in the pose table. -/
theorem wordOff_inb (i : grid0.Coords) (v a b : Fin 4) (x : Fin 4) :
    wordOff i v a b x + (![1, 1, 1, 1] : Fin 4 → Nat) x ≤ S2x4x4x4.size x := by
  have h0 : (i 0).val < 2 := (i 0).isLt
  have hv := v.isLt; have ha := a.isLt; have hb := b.isLt
  rw [wordOff_eq]
  fin_cases x
  · show (i 0).val + 1 ≤ 2; omega
  · show v.val + 1 ≤ 4; omega
  · show a.val + 1 ≤ 4; omega
  · show b.val + 1 ≤ 4; omega

/-- Entry `(a, b)` of the pose of view `v`, as the kernel reads it. -/
def word (x0 : Vec F S2x4x4x4 .f32) (i : grid0.Coords) (v a b : Fin 4) : Elt F .f32 :=
  View.ld (Val := Elt F) (e' := .f32) x0 (Rect.unit (wordOff i v a b) ![1, 1, 1, 1] (wordOff_inb i v a b)) (Shape.Idx.first (by show 0 < (⟨4, ![1, 1, 1, 1]⟩ : Shape).numel; decide))

/-- A view's plane of a block with no channel axis. -/
def flat (x : Vec F S1x4x128x256 .f32) (v : Fin 4) : Vec F S1x1x128x256 .f32 :=
  View.ld (Val := Elt F) (e' := .f32) x (Rect.unit ![0, v.val, 0, 0] ![1, 1, 128, 256] (by
    intro a; have hv := v.isLt; fin_cases a
    · show 0 + 1 ≤ 1; omega
    · show v.val + 1 ≤ 4; omega
    · show 0 + 128 ≤ 128; omega
    · show 0 + 256 ≤ 256; omega))

/-- A view's plane of channel `k` of a block with `K` channels. -/
def chan {K : Nat} (x : Vec F ⟨5, ![1, 4, K, 128, 256]⟩ .f32) (v : Fin 4) (k : Fin K) : Vec F S1x1x1x128x256 .f32 :=
  View.ld (Val := Elt F) (e' := .f32) x (Rect.unit ![0, v.val, k.val, 0, 0] ![1, 1, 1, 128, 256] (by
    intro a; have hv := v.isLt; have hk := k.isLt; fin_cases a
    · show 0 + 1 ≤ 1; omega
    · show v.val + 1 ≤ 4; omega
    · show k.val + 1 ≤ K; omega
    · show 0 + 128 ≤ 128; omega
    · show 0 + 256 ≤ 256; omega))

/-- The same plane with its unit axes dropped. -/
def chan2 {K : Nat} (x : Vec F ⟨5, ![1, 4, K, 128, 256]⟩ .f32) (v : Fin 4) (k : Fin K) : FVec F S128x256 .f32 :=
  shapeCast S128x256 (chan x v k) shapeCasts_S1x1x1x128x256_S128x256

/-- Coordinate `r` of the inverse translation of view `v`. -/
def shift (x0 : Vec F S2x4x4x4 .f32) (i : grid0.Coords) (v r : Fin 4) : F .f32 :=
  k0_pay12 (word x0 i v 0 r) (word x0 i v 0 3) (word x0 i v 1 r) (word x0 i v 1 3) (word x0 i v 2 r) (word x0 i v 2 3)

/-- Coordinate `r` of the world points of view `v`. -/
def world (x0 : Vec F S2x4x4x4 .f32) (x1 : Vec F S1x4x128x256 .f32) (i : grid0.Coords) (v r : Fin 4) : FVec F S128x256 .f32 :=
  k0_pay13 (k0_pay9 i (flat x1 v)) (k0_pay10 i (flat x1 v)) (k0_pay11 i (flat x1 v)) (shift x0 i v r)
    (word x0 i v 0 r) (word x0 i v 1 r) (word x0 i v 2 r)

/-- Component `k` of the normalised rotations of view `v`. -/
def quat (x3 : Vec F S1x4x4x128x256 .f32) (v k : Fin 4) : FVec F S128x256 .f32 :=
  mulf (chan2 (K := 4) x3 v k) (k0_pay27 (chan (K := 4) x3 v 0) (chan (K := 4) x3 v 1) (chan (K := 4) x3 v 2) (chan (K := 4) x3 v 3))

variable (i : grid0.Coords) (x0 : Vec F S2x4x4x4 .f32) (x1 : Vec F S1x4x128x256 .f32) (x2 : Vec F S1x4x3x128x256 .f32)
  (x3 : Vec F S1x4x4x128x256 .f32) (x4 : Vec F S1x4x128x256 .f32) (x5 : Vec F S1x4x12x128x256 .f32) (x6 : Vec F S1x4x128x256 .f32)

/-- The tile of planes `8 g … 8 g + 7` of view `v`. -/
def tile (g : Fin 3) (v : Fin 4) : FVec F S1x1x1x128x2x8x128 .f32 :=
  match g with
  | 0 => k0_pay46 (world x0 x1 i v 0) (world x0 x1 i v 1) (world x0 x1 i v 2) (chan2 (K := 3) x2 v 0) (chan2 (K := 3) x2 v 1)
      (chan2 (K := 3) x2 v 2) (quat x3 v 0) (quat x3 v 1)
  | 1 => k0_pay46 (quat x3 v 2) (quat x3 v 3) (k0_pay8 (flat x4 v)) (k0_pay8 (flat x6 v)) (chan2 (K := 12) x5 v 0)
      (chan2 (K := 12) x5 v 1) (chan2 (K := 12) x5 v 2) (chan2 (K := 12) x5 v 3)
  | 2 => k0_pay46 (chan2 (K := 12) x5 v 4) (chan2 (K := 12) x5 v 5) (chan2 (K := 12) x5 v 6) (chan2 (K := 12) x5 v 7)
      (chan2 (K := 12) x5 v 8) (chan2 (K := 12) x5 v 9) (chan2 (K := 12) x5 v 10) (chan2 (K := 12) x5 v 11)

/-- Where that tile goes. -/
abbrev tileRect (g : Fin 3) (v : Fin 4) : Rect S1x3x4x128x2x8x128 :=
  Rect.unit ![0, g.val, v.val, 0, 0, 0, 0] ![1, 1, 1, 128, 2, 8, 128] (by
    intro a; have hg := g.isLt; have hv := v.isLt; fin_cases a
    · show 0 + 1 ≤ 1; omega
    · show g.val + 1 ≤ 3; omega
    · show v.val + 1 ≤ 4; omega
    · show 0 + 128 ≤ 128; omega
    · show 0 + 2 ≤ 2; omega
    · show 0 + 8 ≤ 8; omega
    · show 0 + 128 ≤ 128; omega)

/-- The store of that tile. -/
def piece7 (g : Fin 3) (v : Fin 4) : View.Piece (Elt F) S1x3x4x128x2x8x128 .f32 :=
  ⟨tileRect g v, tile i x0 x1 x2 x3 x4 x5 x6 g v⟩

/-- The store of the mask plane of view `v`. -/
def piece8 (v : Fin 4) : View.Piece (Elt F) S1x4x128x256 .i8 :=
  ⟨Rect.unit ![0, v.val, 0, 0] ![1, 1, 128, 256] (by
    intro a; have hv := v.isLt; fin_cases a
    · show 0 + 1 ≤ 1; omega
    · show v.val + 1 ≤ 4; omega
    · show 0 + 128 ≤ 128; omega
    · show 0 + 256 ≤ 256; omega), k0_pay49 (k0_pay8 (flat x4 v)) (k0_pay8 (flat x6 v))⟩

section Run

variable (c : Dev nD) (arg3 : Memref sig .tc .smem S2x4x4x4 .f32) (harg3 : arg3.IsWhole) (arg4 : Memref sig .tc .vmem S1x4x128x256 .f32) (harg4 : arg4.IsWhole)
  (arg5 : Memref sig .tc .vmem S1x4x3x128x256 .f32) (harg5 : arg5.IsWhole) (arg6 : Memref sig .tc .vmem S1x4x4x128x256 .f32) (harg6 : arg6.IsWhole)
  (arg7 : Memref sig .tc .vmem S1x4x128x256 .f32) (harg7 : arg7.IsWhole) (arg8 : Memref sig .tc .vmem S1x4x12x128x256 .f32) (harg8 : arg8.IsWhole)
  (arg9 : Memref sig .tc .vmem S1x4x128x256 .f32) (harg9 : arg9.IsWhole) (arg10 : Memref sig .tc .vmem S1x3x4x128x2x8x128 .f32) (harg10 : arg10.IsWhole)
  (arg11 : Memref sig .tc .vmem S1x4x128x256 .i8) (harg11 : arg11.IsWhole)

set_option pp.maxSteps 300 in
set_option maxHeartbeats 1600000 in
/-- The recorded stores of the mask output. -/
theorem run8 : (kernelRun0_A c i arg3 harg3 arg4 harg4 arg5 harg5 arg6 harg6 arg7 harg7 arg8 harg8 arg9 harg9 arg10 harg10 arg11 harg11 x0 x1 x2 x3 x4 x5 x6).2.1
    = [piece8 x4 x6 3, piece8 x4 x6 2, piece8 x4 x6 1, piece8 x4 x6 0] := by
  unfold kernelRun0_A
  dsimp only
  sl_unfold_words
  dsimp only [View.readAt_eq_ld]
  rw [harg7.read_unread, harg9.read_unread]
  rfl

set_option pp.maxSteps 300 in
set_option maxHeartbeats 1600000 in
/-- The recorded stores of the fused output. -/
theorem run7 : (kernelRun0_A c i arg3 harg3 arg4 harg4 arg5 harg5 arg6 harg6 arg7 harg7 arg8 harg8 arg9 harg9 arg10 harg10 arg11 harg11 x0 x1 x2 x3 x4 x5 x6).1
    = [piece7 i x0 x1 x2 x3 x4 x5 x6 2 3, piece7 i x0 x1 x2 x3 x4 x5 x6 1 3, piece7 i x0 x1 x2 x3 x4 x5 x6 0 3,
       piece7 i x0 x1 x2 x3 x4 x5 x6 2 2, piece7 i x0 x1 x2 x3 x4 x5 x6 1 2, piece7 i x0 x1 x2 x3 x4 x5 x6 0 2,
       piece7 i x0 x1 x2 x3 x4 x5 x6 2 1, piece7 i x0 x1 x2 x3 x4 x5 x6 1 1, piece7 i x0 x1 x2 x3 x4 x5 x6 0 1,
       piece7 i x0 x1 x2 x3 x4 x5 x6 2 0, piece7 i x0 x1 x2 x3 x4 x5 x6 1 0, piece7 i x0 x1 x2 x3 x4 x5 x6 0 0] := by
  unfold kernelRun0_A
  dsimp only
  sl_unfold_words
  dsimp only [View.readAt_eq_ld]
  rw [harg3.read_unread, harg4.read_unread, harg5.read_unread, harg6.read_unread, harg7.read_unread, harg8.read_unread, harg9.read_unread]
  rfl

end Run

end Cert.KernelIdeal.Own
-- ==== Proof.Tile.lean ====
/-
The two output blocks of a grid point, read at an index. A tile is eight planes of 128 rows by 256 columns, each cut
into 128-column halves and interleaved; reading a tile at an index reads one plane at one pixel. The twelve tiles cover
the fused block and the four mask planes cover the mask block.
-/
module

public import proofs.«01_k».proof.Proof.Block
public import Idealize.ShloMosaic.Lib.Pipeline.Value
public import Idealize.ShloMosaic.Lib.ValueIdx
public import Idealize.ShloMosaic.Lib.ValueIdxRank6

@[expose] public section

set_option maxRecDepth 16384

noncomputable section

namespace Cert.KernelIdeal.Own

open Idealize.ShloMosaic Idealize.ShloMosaic.TcCoe Idealize.ShloMosaic.Tactic Idealize.ShloMosaic.ValueIdx
open Idealize.SL.Sem
open Cert.KernelIdeal Cert.KernelIdeal.Gen

variable {F : FTy → Type} [FloatOps F]

/-- The row-major position of a rank-seven index whose three leading axes have extent one. -/
theorem rowMajor_tile (j : S1x1x1x128x2x8x128.Idx) :
    (S1x1x1x128x2x8x128.rowMajor j).val = (((j 3).val * 2 + (j 4).val) * 8 + (j 5).val) * 128 + (j 6).val := by
  have j0 : (j 0).val < 1 := (j 0).isLt
  have j1 : (j 1).val < 1 := (j 1).isLt
  have j2 : (j 2).val < 1 := (j 2).isLt
  refine (Shape.rowMajor_val_succ (n := 6) (d := ![1, 1, 1, 128, 2, 8, 128]) j).trans ?_
  rw [Shape.rowMajor_val_six]
  show (j 0).val * _ + ((((((j 1).val * 1 + (j 2).val) * 128 + (j 3).val) * 2 + (j 4).val) * 8 + (j 5).val) * 128 + (j 6).val) = _
  rw [show (j 0).val = 0 by omega]
  omega

/-- Eight planes interleaved into a tile. -/
def pack (P : Fin 8 → FVec F S128x256 .f32) : FVec F S1x1x1x128x2x8x128 .f32 :=
  k0_pay46 (P 0) (P 1) (P 2) (P 3) (P 4) (P 5) (P 6) (P 7)

/-- One plane as a slab of the concatenation. -/
def slab (x : FVec F S128x256 .f32) : FVec F S1x256x128 .f32 :=
  shapeCast S1x256x128 (shapeCast S256x128 x shapeCasts_S128x256_S256x128) shapeCasts_S256x128_S1x256x128

/-- A slab at row `r` and lane `l` is the plane at pixel `(r / 2, 128 (r % 2) + l)`. -/
theorem slab_apply (x : FVec F S128x256 .f32) (r : Fin 256) (l : Fin 128) :
    slab x (ix3 0 r l) = x (ix2 ⟨r.val / 2, by have := r.isLt; omega⟩ ⟨r.val % 2 * 128 + l.val, by have := l.isLt; omega⟩) := by
  have hr := r.isLt
  have hl := l.isLt
  unfold slab
  refine (shapeCast_apply _ _ _ (ix2 r l) ?_).trans (shapeCast_apply _ _ _ _ ?_)
  · rw [Shape.rowMajor_val_two, Shape.rowMajor_val_three]
    show r.val * 128 + l.val = (0 * 256 + r.val) * 128 + l.val
    omega
  · rw [Shape.rowMajor_val_two, Shape.rowMajor_val_two]
    show r.val / 2 * 256 + (r.val % 2 * 128 + l.val) = r.val * 128 + l.val
    omega

/-- A tile read at an index: the plane its sublane names, at the pixel its row, half and lane name. -/
theorem pack_apply (P : Fin 8 → FVec F S128x256 .f32) (j : S1x1x1x128x2x8x128.Idx) (h : Fin 128) (s : Fin 2) (k : Fin 8) (l : Fin 128)
    (h3 : (j 3).val = h.val) (h4 : (j 4).val = s.val) (h5 : (j 5).val = k.val) (h6 : (j 6).val = l.val) :
    pack P j = P k (ix2 h ⟨s.val * 128 + l.val, by have := s.isLt; have := l.isLt; omega⟩) := by
  have hh := h.isLt
  have hs := s.isLt
  have hk := k.isLt
  have hl := l.isLt
  have j0 : (j 0).val < 1 := (j 0).isLt
  have j1 : (j 1).val < 1 := (j 1).isLt
  have j2 : (j 2).val < 1 := (j 2).isLt
  unfold pack k0_pay46
  refine (shapeCast_apply _ _ _ (ix4 h s k l) ?_).trans ?_
  · rw [Shape.rowMajor_val_four, rowMajor_tile, h3, h4, h5, h6]
    rfl
  refine (shapeCast_apply _ _ _ (ix3 ⟨h.val * 2 + s.val, by omega⟩ k l) ?_).trans ?_
  · rw [Shape.rowMajor_val_four, Shape.rowMajor_val_three]
    show ((h.val * 2 + s.val) * 8 + k.val) * 128 + l.val = ((h.val * 2 + s.val) * 8 + k.val) * 128 + l.val
    rfl
  refine (transpose_apply _ _ _ _ (ix3 k ⟨h.val * 2 + s.val, by omega⟩ l)
    (fun b => match b with | ⟨0, _⟩ => rfl | ⟨1, _⟩ => rfl | ⟨2, _⟩ => rfl)).trans ?_
  refine (concatenate_ofFn_unit_apply (s₁ := S1x256x128) 0 (fun n => slab (P n)) concatenates_S1x256x128_S1x256x128_S1x256x128_S1x256x128_S1x256x128_S1x256x128_S1x256x128_S1x256x128_S8x256x128_d0
    rfl rfl (ix3 k ⟨h.val * 2 + s.val, by omega⟩ l) k rfl (ix3 0 ⟨h.val * 2 + s.val, by omega⟩ l)
    (fun b => match b with | ⟨0, _⟩ => fun hb => absurd rfl hb | ⟨1, _⟩ => fun _ => rfl | ⟨2, _⟩ => fun _ => rfl)).trans ?_
  refine (slab_apply _ _ _).trans ?_
  congr 1
  funext a
  match a with
  | ⟨0, _⟩ => exact Fin.ext (show (h.val * 2 + s.val) / 2 = h.val by omega)
  | ⟨1, _⟩ => exact Fin.ext (show (h.val * 2 + s.val) % 2 * 128 + l.val = s.val * 128 + l.val by omega)

/-- The batch of a grid point. -/
def batch (i : grid0.Coords) : Fin 2 := ⟨(i 0).val, (i 0).isLt⟩

/-- A pose word is an element of the pose table. -/
theorem word_eq (x0 : Vec F S2x4x4x4 .f32) (i : grid0.Coords) (v a b : Fin 4) : word x0 i v a b = x0 (ix4 (batch i) v a b) := by
  unfold word View.ld
  congr 1
  funext d
  have e := wordOff_eq i v a b
  refine Fin.ext ?_
  show wordOff i v a b d + 1 * 0 = (ix4 (batch i) v a b d).val
  rw [congrFun e d]
  match d with
  | ⟨0, _⟩ => rfl
  | ⟨1, _⟩ => rfl
  | ⟨2, _⟩ => rfl
  | ⟨3, _⟩ => rfl

/-- A view's plane at a pixel. -/
theorem flat_apply (x : Vec F S1x4x128x256 .f32) (v : Fin 4) (h : Fin 128) (w : Fin 256) :
    k0_pay8 (flat x v) (ix2 h w) = x (ix4 0 v h w) := by
  have hh := h.isLt
  have hw := w.isLt
  unfold k0_pay8
  refine (shapeCast_apply _ _ _ (ix4 0 0 h w) ?_).trans ?_
  · rw [Shape.rowMajor_val_two, Shape.rowMajor_val_four]
    show ((0 * 1 + 0) * 128 + h.val) * 256 + w.val = h.val * 256 + w.val
    omega
  unfold flat View.ld
  congr 1
  funext d
  refine Fin.ext ?_
  match d with
  | ⟨0, _⟩ => rfl
  | ⟨1, _⟩ => show v.val + 1 * 0 = v.val; omega
  | ⟨2, _⟩ => show 0 + 1 * h.val = h.val; omega
  | ⟨3, _⟩ => show 0 + 1 * w.val = w.val; omega

/-- A channel's plane at a pixel. -/
theorem chan2_apply {K : Nat} (x : Vec F ⟨5, ![1, 4, K, 128, 256]⟩ .f32) (v : Fin 4) (k : Fin K) (h : Fin 128) (w : Fin 256) :
    chan2 x v k (ix2 h w) = x (ix5 0 v k h w) := by
  have hh := h.isLt
  have hw := w.isLt
  unfold chan2
  refine (shapeCast_apply _ _ _ (ix5 0 0 0 h w) ?_).trans ?_
  · rw [Shape.rowMajor_val_two, Shape.rowMajor_val_five]
    show (((0 * 1 + 0) * 1 + 0) * 128 + h.val) * 256 + w.val = h.val * 256 + w.val
    omega
  unfold chan View.ld
  congr 1
  funext d
  refine Fin.ext ?_
  match d with
  | ⟨0, _⟩ => rfl
  | ⟨1, _⟩ => show v.val + 1 * 0 = v.val; omega
  | ⟨2, _⟩ => show k.val + 1 * 0 = k.val; omega
  | ⟨3, _⟩ => show 0 + 1 * h.val = h.val; omega
  | ⟨4, _⟩ => show 0 + 1 * w.val = w.val; omega

variable (i : grid0.Coords) (x0 : Vec F S2x4x4x4 .f32) (x1 : Vec F S1x4x128x256 .f32) (x2 : Vec F S1x4x3x128x256 .f32)
  (x3 : Vec F S1x4x4x128x256 .f32) (x4 : Vec F S1x4x128x256 .f32) (x5 : Vec F S1x4x12x128x256 .f32) (x6 : Vec F S1x4x128x256 .f32)

/-- The twenty-four planes of a view, in the order of the fused channels. -/
def planes (v : Fin 4) : Fin 24 → FVec F S128x256 .f32 :=
  ![world x0 x1 i v 0, world x0 x1 i v 1, world x0 x1 i v 2,
    chan2 (K := 3) x2 v 0, chan2 (K := 3) x2 v 1, chan2 (K := 3) x2 v 2,
    quat x3 v 0, quat x3 v 1, quat x3 v 2, quat x3 v 3,
    k0_pay8 (flat x4 v), k0_pay8 (flat x6 v),
    chan2 (K := 12) x5 v 0, chan2 (K := 12) x5 v 1, chan2 (K := 12) x5 v 2, chan2 (K := 12) x5 v 3,
    chan2 (K := 12) x5 v 4, chan2 (K := 12) x5 v 5, chan2 (K := 12) x5 v 6, chan2 (K := 12) x5 v 7,
    chan2 (K := 12) x5 v 8, chan2 (K := 12) x5 v 9, chan2 (K := 12) x5 v 10, chan2 (K := 12) x5 v 11]

/-- A tile packs eight consecutive planes. -/
theorem tile_eq (g : Fin 3) (v : Fin 4) :
    tile i x0 x1 x2 x3 x4 x5 x6 g v
      = pack fun k : Fin 8 => planes i x0 x1 x2 x3 x4 x5 x6 v ⟨8 * g.val + k.val, by have := g.isLt; have := k.isLt; omega⟩ := by
  match g with
  | 0 => rfl
  | 1 => rfl
  | 2 => rfl

/-- The fused block of a grid point: which plane and which pixel each index reads. -/
def fusedBlock (y : S1x3x4x128x2x8x128.Idx) : Elt F .f32 :=
  planes i x0 x1 x2 x3 x4 x5 x6 ⟨(y 2).val, (y 2).isLt⟩
    ⟨8 * (y 1).val + (y 5).val, by have h1 : (y 1).val < 3 := (y 1).isLt; have h5 : (y 5).val < 8 := (y 5).isLt; omega⟩
    (ix2 ⟨(y 3).val, (y 3).isLt⟩
      ⟨(y 4).val * 128 + (y 6).val, by have h4 : (y 4).val < 2 := (y 4).isLt; have h6 : (y 6).val < 128 := (y 6).isLt; omega⟩)

/-- Each stored tile is the fused block under its rectangle. -/
theorem piece7_apply (g : Fin 3) (v : Fin 4) (x : (piece7 i x0 x1 x2 x3 x4 x5 x6 g v).1.shape.Idx) :
    (piece7 i x0 x1 x2 x3 x4 x5 x6 g v).2 x
      = fusedBlock i x0 x1 x2 x3 x4 x5 x6 ((piece7 i x0 x1 x2 x3 x4 x5 x6 g v).1.emb x) := by
  show tile i x0 x1 x2 x3 x4 x5 x6 g v x = fusedBlock i x0 x1 x2 x3 x4 x5 x6 ((tileRect g v).emb x)
  have q1 : (x 1).val < 1 := (x 1).isLt
  have q2 : (x 2).val < 1 := (x 2).isLt
  have q3 : (x 3).val < 128 := (x 3).isLt
  have q4 : (x 4).val < 2 := (x 4).isLt
  have q5 : (x 5).val < 8 := (x 5).isLt
  have q6 : (x 6).val < 128 := (x 6).isLt
  rw [tile_eq, pack_apply _ x ⟨(x 3).val, q3⟩ ⟨(x 4).val, q4⟩ ⟨(x 5).val, q5⟩ ⟨(x 6).val, q6⟩ rfl rfl rfl rfl]
  have e1 : ((tileRect g v).emb x 1).val = g.val := by show g.val + 1 * (x 1).val = g.val; omega
  have e2 : ((tileRect g v).emb x 2).val = v.val := by show v.val + 1 * (x 2).val = v.val; omega
  have e3 : ((tileRect g v).emb x 3).val = (x 3).val := by show 0 + 1 * (x 3).val = _; omega
  have e4 : ((tileRect g v).emb x 4).val = (x 4).val := by show 0 + 1 * (x 4).val = _; omega
  have e5 : ((tileRect g v).emb x 5).val = (x 5).val := by show 0 + 1 * (x 5).val = _; omega
  have e6 : ((tileRect g v).emb x 6).val = (x 6).val := by show 0 + 1 * (x 6).val = _; omega
  unfold fusedBlock
  simp only [e1, e2, e3, e4, e5, e6]

/-- The mask block of a grid point. -/
def maskBlock (y : S1x4x128x256.Idx) : Elt F .i8 :=
  (IntOp.andi (FloatOps.cmpf .ogt (x6 (ix4 0 (y 1) (y 2) (y 3))) (Scalar.ofBits .f32 0x3DCCCCCD#32))
    (FloatOps.cmpf .ogt (x4 (ix4 0 (y 1) (y 2) (y 3))) (Scalar.ofBits .f32 0x3C23D70A#32))).setWidth 8

/-- Each stored mask plane is the mask block under its rectangle. -/
theorem piece8_apply (v : Fin 4) (x : S1x1x128x256.Idx) :
    (piece8 x4 x6 v).2 x = maskBlock x4 x6 ((piece8 x4 x6 v).1.emb x) := by
  have q0 : (x 0).val < 1 := (x 0).isLt
  have q1 : (x 1).val < 1 := (x 1).isLt
  have q2 : (x 2).val < 128 := (x 2).isLt
  have q3 : (x 3).val < 256 := (x 3).isLt
  show k0_pay49 (k0_pay8 (flat x4 v)) (k0_pay8 (flat x6 v)) x = _
  unfold k0_pay49
  refine (shapeCast_apply _ _ _ (ix2 ⟨(x 2).val, q2⟩ ⟨(x 3).val, q3⟩) ?_).trans ?_
  · rw [Shape.rowMajor_val_two, Shape.rowMajor_val_four]
    show (x 2).val * 256 + (x 3).val = (((x 0).val * 1 + (x 1).val) * 128 + (x 2).val) * 256 + (x 3).val
    omega
  have e : (ix4 0 ((piece8 x4 x6 v).1.emb x 1) ((piece8 x4 x6 v).1.emb x 2) ((piece8 x4 x6 v).1.emb x 3) : S1x4x128x256.Idx)
      = ix4 0 v ⟨(x 2).val, q2⟩ ⟨(x 3).val, q3⟩ := by
    funext d
    refine Fin.ext ?_
    match d with
    | ⟨0, _⟩ => rfl
    | ⟨1, _⟩ => show v.val + 1 * (x 1).val = v.val; omega
    | ⟨2, _⟩ => show 0 + 1 * (x 2).val = (x 2).val; omega
    | ⟨3, _⟩ => show 0 + 1 * (x 3).val = (x 3).val; omega
  unfold maskBlock
  rw [e, ← flat_apply x4, ← flat_apply x6]
  rfl

end Cert.KernelIdeal.Own

end
-- ==== Proof.Arr.lean ====
/-
The two arrays the grid leaves and the host operations after it. Each point writes its own batch of both arrays, so an
array element is the block of the point its batch names; the host then reads the fused array pixel by pixel and turns
the mask bytes into bits.
-/
module

public import proofs.«01_k».proof.Proof.Tile
public import Idealize.ShloMosaic.Lib.StableHlo.Run

@[expose] public section

set_option maxRecDepth 16384

noncomputable section

namespace Cert.KernelIdeal.Own

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen

variable {F : FTy → Type} [FloatOps F]

section Block

variable (i : grid0.Coords) (x0 : Vec F S2x4x4x4 .f32) (x1 : Vec F S1x4x128x256 .f32) (x2 : Vec F S1x4x3x128x256 .f32)
  (x3 : Vec F S1x4x4x128x256 .f32) (x4 : Vec F S1x4x128x256 .f32) (x5 : Vec F S1x4x12x128x256 .f32) (x6 : Vec F S1x4x128x256 .f32)
  (c : Dev nD) (arg3 : Memref sig .tc .smem S2x4x4x4 .f32) (harg3 : arg3.IsWhole) (arg4 : Memref sig .tc .vmem S1x4x128x256 .f32) (harg4 : arg4.IsWhole)
  (arg5 : Memref sig .tc .vmem S1x4x3x128x256 .f32) (harg5 : arg5.IsWhole) (arg6 : Memref sig .tc .vmem S1x4x4x128x256 .f32) (harg6 : arg6.IsWhole)
  (arg7 : Memref sig .tc .vmem S1x4x128x256 .f32) (harg7 : arg7.IsWhole) (arg8 : Memref sig .tc .vmem S1x4x12x128x256 .f32) (harg8 : arg8.IsWhole)
  (arg9 : Memref sig .tc .vmem S1x4x128x256 .f32) (harg9 : arg9.IsWhole) (arg10 : Memref sig .tc .vmem S1x3x4x128x2x8x128 .f32) (harg10 : arg10.IsWhole)
  (arg11 : Memref sig .tc .vmem S1x4x128x256 .i8) (harg11 : arg11.IsWhole)

/-- What a point leaves in the fused output's buffer. -/
theorem out7_eq : out0_A_7 c i arg3 harg3 arg4 harg4 arg5 harg5 arg6 harg6 arg7 harg7 arg8 harg8 arg9 harg9 arg10 harg10 arg11 harg11 x0 x1 x2 x3 x4 x5 x6
    = fusedBlock i x0 x1 x2 x3 x4 x5 x6 := by
  have hc := cover0_A_7 c i arg3 harg3 arg4 harg4 arg5 harg5 arg6 harg6 arg7 harg7 arg8 harg8 arg9 harg9 arg10 harg10 arg11 harg11 x0 x1 x2 x3 x4 x5 x6
  funext y
  unfold out0_A_7
  rw [View.read_writes_eq_canon _ _ _ hc]
  refine View.canon_apply_of_pieces (fusedBlock i x0 x1 x2 x3 x4 x5 x6) _ (fun p hp x => ?_) y (hc y)
  rw [run7] at hp
  simp only [List.mem_cons, List.mem_nil_iff, or_false] at hp
  rcases hp with rfl | rfl | rfl | rfl | rfl | rfl | rfl | rfl | rfl | rfl | rfl | rfl
  all_goals exact piece7_apply i x0 x1 x2 x3 x4 x5 x6 _ _ x

/-- What a point leaves in the mask output's buffer. -/
theorem out8_eq : out0_A_8 c i arg3 harg3 arg4 harg4 arg5 harg5 arg6 harg6 arg7 harg7 arg8 harg8 arg9 harg9 arg10 harg10 arg11 harg11 x0 x1 x2 x3 x4 x5 x6
    = maskBlock x4 x6 := by
  have hc := cover0_A_8 c i arg3 harg3 arg4 harg4 arg5 harg5 arg6 harg6 arg7 harg7 arg8 harg8 arg9 harg9 arg10 harg10 arg11 harg11 x0 x1 x2 x3 x4 x5 x6
  funext y
  unfold out0_A_8
  rw [View.read_writes_eq_canon _ _ _ hc]
  refine View.canon_apply_of_pieces (maskBlock x4 x6) _ (fun p hp x => ?_) y (hc y)
  rw [run8] at hp
  simp only [List.mem_cons, List.mem_nil_iff, or_false] at hp
  rcases hp with rfl | rfl | rfl | rfl
  all_goals exact piece8_apply x4 x6 _ x

end Block

variable (m : (ℓ : Loc nD τ sig) → Buf (Elt F) ℓ) (ρ : Dev nD → PrngReg) (c : Dev nD)

/-- The fused block of point `t`. -/
def fusedAt (t : Fin cfg0.N) : S1x3x4x128x2x8x128.Idx → Elt F .f32 :=
  fusedBlock (grid0.coords t) (iblk m c 0 t) (iblk m c 1 t) (iblk m c 2 t) (iblk m c 3 t) (iblk m c 4 t) (iblk m c 5 t) (iblk m c 6 t)

/-- The mask block of point `t`. -/
def maskAt (t : Fin cfg0.N) : S1x4x128x256.Idx → Elt F .i8 :=
  maskBlock (iblk m c 4 t) (iblk m c 6 t)

theorem outs_fst (t : Fin cfg0.N) : (outsAt0 m c t).1 = fusedAt m c t := by
  unfold outsAt0
  dsimp only
  rw [out7_eq]
  rfl

theorem outs_snd (t : Fin cfg0.N) : (outsAt0 m c t).2 = maskAt m c t := by
  unfold outsAt0
  dsimp only
  rw [out8_eq]
  rfl

/-- The grid point of a batch. -/
def point (b : Nat) (h : b < 2) : Fin cfg0.N := ⟨b, lt_of_lt_of_eq h N_0.symm⟩

/-- The fused array after the run: each batch is its point's block. -/
def fusedArr (y : S2x3x4x128x2x8x128.Idx) : Elt F .f32 :=
  fusedAt m c (point (y 0).val (y 0).isLt) fun a => match a with
    | ⟨0, _⟩ => ⟨0, Nat.one_pos⟩
    | ⟨1, _⟩ => y 1
    | ⟨2, _⟩ => y 2
    | ⟨3, _⟩ => y 3
    | ⟨4, _⟩ => y 4
    | ⟨5, _⟩ => y 5
    | ⟨6, _⟩ => y 6

/-- The mask array after the run. -/
def maskArr (y : S2x4x128x256.Idx) : Elt F .i8 :=
  maskAt m c (point (y 0).val (y 0).isLt) fun a => match a with
    | ⟨0, _⟩ => ⟨0, Nat.one_pos⟩
    | ⟨1, _⟩ => y 1
    | ⟨2, _⟩ => y 2
    | ⟨3, _⟩ => y 3

/-- The fused output's block number at a point is the point, then zeros. -/
theorem index7 (t : Fin cfg0.N) : win0_7.index t = fun a => if a.val = 0 then t.val else 0 := by
  rcases fin_N0 t with rfl | rfl <;> decide

theorem index8 (t : Fin cfg0.N) : win0_8.index t = fun a => if a.val = 0 then t.val else 0 := by
  rcases fin_N0 t with rfl | rfl <;> decide

theorem flushed7 (t : Fin cfg0.N) (hf : (cfg0.win 7).flush t = true) :
    (dats m 0 c).flushed 7 t = ((cfg0.win 7).blk t).view.read (Elt F) (fusedArr m c) := by
  show (cfg0.win 7).cut (grid0.coords t) ((dats m 0 c).after 7 t) = _
  rw [after0_7, outs_fst]
  have hi := index7 t
  funext y
  have hy0 : (y 0).val < 1 := (y 0).isLt
  rw [View.read_apply]
  show fusedAt m c t y = fusedArr m c _
  unfold fusedArr
  refine congr (congrArg (fusedAt m c) (Fin.ext ?_)) (funext fun a => Fin.ext ?_)
  · show t.val = win0_7.index t 0 * 1 + 1 * (y 0).val
    rw [show win0_7.index t 0 = t.val from congrFun hi 0]; omega
  · match a with
    | ⟨0, _⟩ => show (y 0).val = 0; omega
    | ⟨1, _⟩ => show (y 1).val = win0_7.index t 1 * 3 + 1 * (y 1).val; rw [show win0_7.index t 1 = 0 from congrFun hi 1]; omega
    | ⟨2, _⟩ => show (y 2).val = win0_7.index t 2 * 4 + 1 * (y 2).val; rw [show win0_7.index t 2 = 0 from congrFun hi 2]; omega
    | ⟨3, _⟩ => show (y 3).val = win0_7.index t 3 * 128 + 1 * (y 3).val; rw [show win0_7.index t 3 = 0 from congrFun hi 3]; omega
    | ⟨4, _⟩ => show (y 4).val = win0_7.index t 4 * 2 + 1 * (y 4).val; rw [show win0_7.index t 4 = 0 from congrFun hi 4]; omega
    | ⟨5, _⟩ => show (y 5).val = win0_7.index t 5 * 8 + 1 * (y 5).val; rw [show win0_7.index t 5 = 0 from congrFun hi 5]; omega
    | ⟨6, _⟩ => show (y 6).val = win0_7.index t 6 * 128 + 1 * (y 6).val; rw [show win0_7.index t 6 = 0 from congrFun hi 6]; omega

theorem flushed8 (t : Fin cfg0.N) (hf : (cfg0.win 8).flush t = true) :
    (dats m 0 c).flushed 8 t = ((cfg0.win 8).blk t).view.read (Elt F) (maskArr m c) := by
  show (cfg0.win 8).cut (grid0.coords t) ((dats m 0 c).after 8 t) = _
  rw [after0_8, outs_snd]
  have hi := index8 t
  funext y
  have hy0 : (y 0).val < 1 := (y 0).isLt
  rw [View.read_apply]
  show maskAt m c t y = maskArr m c _
  unfold maskArr
  refine congr (congrArg (maskAt m c) (Fin.ext ?_)) (funext fun a => Fin.ext ?_)
  · show t.val = win0_8.index t 0 * 1 + 1 * (y 0).val
    rw [show win0_8.index t 0 = t.val from congrFun hi 0]; omega
  · match a with
    | ⟨0, _⟩ => show (y 0).val = 0; omega
    | ⟨1, _⟩ => show (y 1).val = win0_8.index t 1 * 4 + 1 * (y 1).val; rw [show win0_8.index t 1 = 0 from congrFun hi 1]; omega
    | ⟨2, _⟩ => show (y 2).val = win0_8.index t 2 * 128 + 1 * (y 2).val; rw [show win0_8.index t 2 = 0 from congrFun hi 2]; omega
    | ⟨3, _⟩ => show (y 3).val = win0_8.index t 3 * 256 + 1 * (y 3).val; rw [show win0_8.index t 3 = 0 from congrFun hi 3]; omega

/-- The fused array ends holding `fusedArr`. -/
theorem final7 : (dats m 0 c).arrAt 7 cfg0.N = fusedArr m c :=
  (dats m 0 c).arrAt_eq_of_cover 7 (fusedArr m c) (flushed7 m c) fun i =>
    ⟨point (i 0).val (i 0).isLt, flush0_7 _, by
      have hi := index7 (point (i 0).val (i 0).isLt)
      generalize ht : point (i 0).val (i 0).isLt = t at hi ⊢
      have h0 : (i 0).val = t.val := by rw [← ht]; rfl
      show i ∈ ((View.whole main_v0_0).slice (win0_7.rect t)).set
      rw [View.set_slice_whole, Rect.mem_set_unit]
      intro a
      have h1 : (i 1 : Nat) < 3 := (i 1).isLt
      have h2 : (i 2 : Nat) < 4 := (i 2).isLt
      have h3 : (i 3 : Nat) < 128 := (i 3).isLt
      have h4 : (i 4 : Nat) < 2 := (i 4).isLt
      have h5 : (i 5 : Nat) < 8 := (i 5).isLt
      have h6 : (i 6 : Nat) < 128 := (i 6).isLt
      match a with
      | ⟨0, _⟩ => show win0_7.index t 0 * 1 ≤ (i 0 : Nat) ∧ (i 0 : Nat) < win0_7.index t 0 * 1 + 1; rw [show win0_7.index t 0 = t.val from congrFun hi 0]; omega
      | ⟨1, _⟩ => show win0_7.index t 1 * 3 ≤ (i 1 : Nat) ∧ (i 1 : Nat) < win0_7.index t 1 * 3 + 3; rw [show win0_7.index t 1 = 0 from congrFun hi 1]; omega
      | ⟨2, _⟩ => show win0_7.index t 2 * 4 ≤ (i 2 : Nat) ∧ (i 2 : Nat) < win0_7.index t 2 * 4 + 4; rw [show win0_7.index t 2 = 0 from congrFun hi 2]; omega
      | ⟨3, _⟩ => show win0_7.index t 3 * 128 ≤ (i 3 : Nat) ∧ (i 3 : Nat) < win0_7.index t 3 * 128 + 128; rw [show win0_7.index t 3 = 0 from congrFun hi 3]; omega
      | ⟨4, _⟩ => show win0_7.index t 4 * 2 ≤ (i 4 : Nat) ∧ (i 4 : Nat) < win0_7.index t 4 * 2 + 2; rw [show win0_7.index t 4 = 0 from congrFun hi 4]; omega
      | ⟨5, _⟩ => show win0_7.index t 5 * 8 ≤ (i 5 : Nat) ∧ (i 5 : Nat) < win0_7.index t 5 * 8 + 8; rw [show win0_7.index t 5 = 0 from congrFun hi 5]; omega
      | ⟨6, _⟩ => show win0_7.index t 6 * 128 ≤ (i 6 : Nat) ∧ (i 6 : Nat) < win0_7.index t 6 * 128 + 128; rw [show win0_7.index t 6 = 0 from congrFun hi 6]; omega⟩

/-- The mask array ends holding `maskArr`. -/
theorem final8 : (dats m 0 c).arrAt 8 cfg0.N = maskArr m c :=
  (dats m 0 c).arrAt_eq_of_cover 8 (maskArr m c) (flushed8 m c) fun i =>
    ⟨point (i 0).val (i 0).isLt, flush0_8 _, by
      have hi := index8 (point (i 0).val (i 0).isLt)
      generalize ht : point (i 0).val (i 0).isLt = t at hi ⊢
      have h0 : (i 0).val = t.val := by rw [← ht]; rfl
      show i ∈ ((View.whole main_v0_1).slice (win0_8.rect t)).set
      rw [View.set_slice_whole, Rect.mem_set_unit]
      intro a
      have h1 : (i 1 : Nat) < 4 := (i 1).isLt
      have h2 : (i 2 : Nat) < 128 := (i 2).isLt
      have h3 : (i 3 : Nat) < 256 := (i 3).isLt
      match a with
      | ⟨0, _⟩ => show win0_8.index t 0 * 1 ≤ (i 0 : Nat) ∧ (i 0 : Nat) < win0_8.index t 0 * 1 + 1; rw [show win0_8.index t 0 = t.val from congrFun hi 0]; omega
      | ⟨1, _⟩ => show win0_8.index t 1 * 4 ≤ (i 1 : Nat) ∧ (i 1 : Nat) < win0_8.index t 1 * 4 + 4; rw [show win0_8.index t 1 = 0 from congrFun hi 1]; omega
      | ⟨2, _⟩ => show win0_8.index t 2 * 128 ≤ (i 2 : Nat) ∧ (i 2 : Nat) < win0_8.index t 2 * 128 + 128; rw [show win0_8.index t 2 = 0 from congrFun hi 2]; omega
      | ⟨3, _⟩ => show win0_8.index t 3 * 256 ≤ (i 3 : Nat) ∧ (i 3 : Nat) < win0_8.index t 3 * 256 + 256; rw [show win0_8.index t 3 = 0 from congrFun hi 3]; omega⟩

/-! ## The host operations after the grid -/

/-- The fused result: the fused array with its rows, halves and lanes merged into pixels and its tiles into channels. -/
def fusedOut : Vec F S2x131072x24 .f32 :=
  shapeCast S2x131072x24
    (transpose S2x1024x128x3x8 [0, 2, 4, 1, 3]
      (shapeCast S2x3x1024x8x128 (fusedArr m c : Vec F S2x3x4x128x2x8x128 .f32) shapeCasts_S2x3x4x128x2x8x128_S2x3x1024x8x128)
      transposes_S2x3x1024x8x128_S2x1024x128x3x8_0_2_4_1_3)
    shapeCasts_S2x1024x128x3x8_S2x131072x24

/-- The mask result: the bytes that are not zero. -/
def maskOut : Vec F S2x131072 .i1 :=
  cmpi .ne (shapeCast S2x131072 (maskArr m c : Vec F S2x4x128x256 .i8) shapeCasts_S2x4x128x256_S2x131072)
    (broadcastInDim S2x131072 ![] bcast_S_S2x131072 (constantI S_ 8 0#8))

theorem tail_fused : Pipeline.afterTail₀ cfgs (dats m) 0 (V0 m) [hostOps1] c main_v3 = fusedOut m c := by
  have e : Pipeline.withArrays (cfgs 0).spec c (V0 m c) (fun w => (dats m 0 c).arrAt w (cfgs 0).N) (Proc.devRef .tc main_v0_0) = fusedArr m c :=
    (Pipeline.withArrays_arr (cfgs 0).spec launch0.win.arr_inj c (V0 m c) (fun w => (dats m 0 c).arrAt w (cfgs 0).N) 7).trans (final7 m c)
  unfold Pipeline.afterTail₀
  generalize Pipeline.withArrays (cfgs 0).spec c (V0 m c) (fun w => (dats m 0 c).arrAt w (cfgs 0).N) = W at e ⊢
  show StableHlo.after hostOps1 W (Proc.devRef .tc main_v3) = _
  unfold hostOps1
  after_results
  rw [e]
  rfl

theorem tail_mask : Pipeline.afterTail₀ cfgs (dats m) 0 (V0 m) [hostOps1] c main_v7 = maskOut m c := by
  have e : Pipeline.withArrays (cfgs 0).spec c (V0 m c) (fun w => (dats m 0 c).arrAt w (cfgs 0).N) (Proc.devRef .tc main_v0_1) = maskArr m c :=
    (Pipeline.withArrays_arr (cfgs 0).spec launch0.win.arr_inj c (V0 m c) (fun w => (dats m 0 c).arrAt w (cfgs 0).N) 8).trans (final8 m c)
  unfold Pipeline.afterTail₀
  generalize Pipeline.withArrays (cfgs 0).spec c (V0 m c) (fun w => (dats m 0 c).arrAt w (cfgs 0).N) = W at e ⊢
  show StableHlo.after hostOps1 W (Proc.devRef .tc main_v7) = _
  unfold hostOps1
  after_results
  rw [e]
  rfl

/-- The run, read: both results. -/
theorem results : θ_run defs (onTc (τ := τ) (main (F := F))) ⟨m, fun _ => 0, ρ⟩ fun r => ∀ c : Dev nD,
    r.2.mem ((c.tc : Thread nD τ).loc main_v3) = fusedOut m c ∧ r.2.mem ((c.tc : Thread nD τ).loc main_v7) = maskOut m c :=
  (θ_run defs _ _).mono (fun r h c =>
    ⟨((h c).2 main_v3 (Pipeline.mem_restRefs_of main_v3 (by decide) (by decide))).trans (tail_fused m c),
     ((h c).2 main_v7 (Pipeline.mem_restRefs_of main_v7 (by decide) (by decide))).trans (tail_mask m c)⟩) (run_main m ρ)

/-! ## The results, element by element -/

/-- An index of the fused array from its seven coordinates. -/
def arrIdx (b : Fin 2) (g : Fin 3) (v : Fin 4) (h : Fin 128) (s : Fin 2) (k : Fin 8) (l : Fin 128) : S2x3x4x128x2x8x128.Idx :=
  fun a => match a with
    | ⟨0, _⟩ => b
    | ⟨1, _⟩ => g
    | ⟨2, _⟩ => v
    | ⟨3, _⟩ => h
    | ⟨4, _⟩ => s
    | ⟨5, _⟩ => k
    | ⟨6, _⟩ => l

/-- Its row-major position. -/
theorem rowMajor_arrIdx (b : Fin 2) (g : Fin 3) (v : Fin 4) (h : Fin 128) (s : Fin 2) (k : Fin 8) (l : Fin 128) :
    (S2x3x4x128x2x8x128.rowMajor (arrIdx b g v h s k l)).val
      = (((((b.val * 3 + g.val) * 4 + v.val) * 128 + h.val) * 2 + s.val) * 8 + k.val) * 128 + l.val := by
  have hn : (⟨6, fun a : Fin 6 => (![2, 3, 4, 128, 2, 8, 128] : Fin 7 → Nat) a.succ⟩ : Shape).numel = 3145728 := by
    unfold Shape.numel
    simp [Fin.prod_univ_succ]
  refine (Shape.rowMajor_val_succ (n := 6) (d := ![2, 3, 4, 128, 2, 8, 128]) (arrIdx b g v h s k l)).trans ?_
  refine (congrArg₂ (fun x y : Nat => b.val * x + y) hn (Shape.rowMajor_val_six (d := fun a : Fin 6 => (![2, 3, 4, 128, 2, 8, 128] : Fin 7 → Nat) a.succ) _)).trans ?_
  show b.val * 3145728 + (((((g.val * 4 + v.val) * 128 + h.val) * 2 + s.val) * 8 + k.val) * 128 + l.val) = _
  omega

/-- A fused element: the plane its channel names, at the pixel its row, half and lane name. -/
theorem fusedOut_apply (b : Fin 2) (v : Fin 4) (h : Fin 128) (w : Fin 256) (p : Fin 24) :
    fusedOut m c (ix3 b ⟨(v.val * 128 + h.val) * 256 + w.val, by have := v.isLt; have := h.isLt; have := w.isLt; omega⟩ p)
      = planes (grid0.coords (point b.val b.isLt)) (iblk m c 0 (point b.val b.isLt)) (iblk m c 1 (point b.val b.isLt))
          (iblk m c 2 (point b.val b.isLt)) (iblk m c 3 (point b.val b.isLt)) (iblk m c 4 (point b.val b.isLt))
          (iblk m c 5 (point b.val b.isLt)) (iblk m c 6 (point b.val b.isLt)) v p (ix2 h w) := by
  have hb := b.isLt; have hv := v.isLt; have hh := h.isLt; have hw := w.isLt; have hp := p.isLt
  unfold fusedOut
  refine (shapeCast_apply _ _ _ (ix5 b ⟨(v.val * 128 + h.val) * 2 + w.val / 128, by omega⟩ ⟨w.val % 128, by omega⟩
    ⟨p.val / 8, by omega⟩ ⟨p.val % 8, by omega⟩) ?_).trans ?_
  · rw [Shape.rowMajor_val_five, Shape.rowMajor_val_three]
    show (((b.val * 1024 + ((v.val * 128 + h.val) * 2 + w.val / 128)) * 128 + w.val % 128) * 3 + p.val / 8) * 8 + p.val % 8
      = (b.val * 131072 + ((v.val * 128 + h.val) * 256 + w.val)) * 24 + p.val
    omega
  refine (transpose_apply _ _ _ _ (ix5 b ⟨p.val / 8, by omega⟩ ⟨(v.val * 128 + h.val) * 2 + w.val / 128, by omega⟩
      ⟨p.val % 8, by omega⟩ ⟨w.val % 128, by omega⟩)
    (fun a => match a with | ⟨0, _⟩ => rfl | ⟨1, _⟩ => rfl | ⟨2, _⟩ => rfl | ⟨3, _⟩ => rfl | ⟨4, _⟩ => rfl)).trans ?_
  refine (shapeCast_apply _ _ _ (arrIdx b ⟨p.val / 8, by omega⟩ v h ⟨w.val / 128, by omega⟩ ⟨p.val % 8, by omega⟩ ⟨w.val % 128, by omega⟩) ?_).trans ?_
  · rw [Shape.rowMajor_val_five, rowMajor_arrIdx]
    show (((((b.val * 3 + p.val / 8) * 4 + v.val) * 128 + h.val) * 2 + w.val / 128) * 8 + p.val % 8) * 128 + w.val % 128
      = (((b.val * 3 + p.val / 8) * 1024 + ((v.val * 128 + h.val) * 2 + w.val / 128)) * 8 + p.val % 8) * 128 + w.val % 128
    omega
  have e1 : 8 * (p.val / 8) + p.val % 8 = p.val := by omega
  have e2 : w.val / 128 * 128 + w.val % 128 = w.val := by omega
  unfold fusedArr fusedAt fusedBlock
  show planes _ _ _ _ _ _ _ _ v ⟨8 * (p.val / 8) + p.val % 8, _⟩ (ix2 h ⟨w.val / 128 * 128 + w.val % 128, _⟩) = _
  simp only [e1, e2]
  rfl

/-- A mask element: both thresholds, at the pixel. -/
theorem maskOut_apply (b : Fin 2) (v : Fin 4) (h : Fin 128) (w : Fin 256) :
    maskOut m c (ix2 b ⟨(v.val * 128 + h.val) * 256 + w.val, by have := v.isLt; have := h.isLt; have := w.isLt; omega⟩)
      = IntOp.andi (FloatOps.cmpf .ogt ((iblk m c 6 (point b.val b.isLt) : Vec F S1x4x128x256 .f32) (ix4 0 v h w)) (Scalar.ofBits .f32 0x3DCCCCCD#32))
          (FloatOps.cmpf .ogt ((iblk m c 4 (point b.val b.isLt) : Vec F S1x4x128x256 .f32) (ix4 0 v h w)) (Scalar.ofBits .f32 0x3C23D70A#32)) := by
  have hb := b.isLt; have hv := v.isLt; have hh := h.isLt; have hw := w.isLt
  have key : ∀ x : BitVec 1, IntOp.cmpi .ne (x.setWidth 8) 0#8 = x := by decide
  unfold maskOut
  refine Eq.trans ?_ (key _)
  refine congrArg (fun z => IntOp.cmpi .ne z 0#8) ?_
  refine (shapeCast_apply _ _ _ (ix4 b v h w) ?_).trans ?_
  · rw [Shape.rowMajor_val_four, Shape.rowMajor_val_two]
    show ((b.val * 4 + v.val) * 128 + h.val) * 256 + w.val = b.val * 131072 + ((v.val * 128 + h.val) * 256 + w.val)
    omega
  rfl

end Cert.KernelIdeal.Own

end
-- ==== Proof.Rigid.lean ====
module

public import Mathlib.Data.EReal.Operations
public import Mathlib.Data.EReal.Inv
public import Mathlib.Tactic.Ring
public import Mathlib.Tactic.LinearCombination
public import Mathlib.Tactic.NormNum
public import Mathlib.Tactic.FinCases
public import Idealize.ShloMosaic.Lib.IdealHost

@[expose] public section

/-! # The inverse of a rigid pose

A pose is a 4 × 4 matrix. The reference inverts it by cofactors over the determinant, the kernel by the
transpose of the rotation. On a pose with orthonormal rotation columns, bottom row `0 0 0 1` and finite
translation, the two are equal entry by entry, in extended real arithmetic. -/

set_option maxRecDepth 16384

noncomputable section

namespace Cert.Rigid

open Idealize.ShloMosaic

/-- The 3 × 3 determinant of the rows `a b c` and the columns `p q r`, expanded along the row `a`. -/
def minor {α : Type} [Add α] [Sub α] [Mul α] (e : Fin 4 → Fin 4 → α) (a b c p q r : Fin 4) : α :=
  (e a p * (e b q * e c r - e b r * e c q) - e a q * (e b p * e c r - e b r * e c p)) +
    e a r * (e b p * e c q - e b q * e c p)

/-- The first three rows of the adjugate: the entry `(r, k)` is the cofactor of the entry `(k, r)`. -/
def adj {α : Type} [Add α] [Sub α] [Mul α] [Neg α] (e : Fin 4 → Fin 4 → α) : Fin 3 → Fin 4 → α :=
  ![![minor e 1 2 3 1 2 3, -minor e 0 2 3 1 2 3, minor e 0 1 3 1 2 3, -minor e 0 1 2 1 2 3],
    ![-minor e 1 2 3 0 2 3, minor e 0 2 3 0 2 3, -minor e 0 1 3 0 2 3, minor e 0 1 2 0 2 3],
    ![minor e 1 2 3 0 1 3, -minor e 0 2 3 0 1 3, minor e 0 1 3 0 1 3, -minor e 0 1 2 0 1 3]]

/-- The determinant: the first row of the adjugate on the first column, summed onto `z`. -/
def det {α : Type} [Add α] [Sub α] [Mul α] [Neg α] (z : α) (e : Fin 4 → Fin 4 → α) : α :=
  (((z + adj e 0 0 * e 0 0) + adj e 0 1 * e 1 0) + adj e 0 2 * e 2 0) + adj e 0 3 * e 3 0

/-- The columns `i` and `j` of the rotation, multiplied and summed. -/
def gram {α : Type} [Add α] [Mul α] (e : Fin 4 → Fin 4 → α) (i j : Fin 4) : α :=
  (e 0 i * e 0 j + e 1 i * e 1 j) + e 2 i * e 2 j

/-- A rigid pose: orthonormal rotation columns, bottom row `0 0 0 1`, finite translation. -/
structure IsRigid (e : Fin 4 → Fin 4 → EReal) : Prop where
  g00 : gram e 0 0 = 1
  g01 : gram e 0 1 = 0
  g02 : gram e 0 2 = 0
  g11 : gram e 1 1 = 1
  g12 : gram e 1 2 = 0
  g22 : gram e 2 2 = 1
  b0 : e 3 0 = 0
  b1 : e 3 1 = 0
  b2 : e 3 2 = 0
  b3 : e 3 3 = 1
  t0 : max (e 0 3) (-e 0 3) < ⊤
  t1 : max (e 1 3) (-e 1 3) < ⊤
  t2 : max (e 2 3) (-e 2 3) < ⊤

/-! ## Over the reals -/

/-- For orthonormal `a b c` and `d` the determinant of the three, `d² = 1` and `b × c = d a`. -/
theorem cross_eq (a0 a1 a2 b0 b1 b2 c0 c1 c2 d : ℝ)
    (hd : d = a0 * (b1 * c2 - b2 * c1) + a1 * (b2 * c0 - b0 * c2) + a2 * (b0 * c1 - b1 * c0))
    (haa : (a0 * a0 + a1 * a1) + a2 * a2 = 1) (hab : (a0 * b0 + a1 * b1) + a2 * b2 = 0)
    (hac : (a0 * c0 + a1 * c1) + a2 * c2 = 0) (hbb : (b0 * b0 + b1 * b1) + b2 * b2 = 1)
    (hbc : (b0 * c0 + b1 * c1) + b2 * c2 = 0) (hcc : (c0 * c0 + c1 * c1) + c2 * c2 = 1) :
    d * d = 1 ∧ b1 * c2 - b2 * c1 = d * a0 ∧ b2 * c0 - b0 * c2 = d * a1 ∧ b0 * c1 - b1 * c0 = d * a2 := by
  have h1 : d * d = 1 := by
    have e : d * d =
        ((a0 * a0 + a1 * a1) + a2 * a2) * (((b0 * b0 + b1 * b1) + b2 * b2) * ((c0 * c0 + c1 * c1) + c2 * c2) -
            ((b0 * c0 + b1 * c1) + b2 * c2) * ((b0 * c0 + b1 * c1) + b2 * c2)) -
          ((a0 * b0 + a1 * b1) + a2 * b2) * (((a0 * b0 + a1 * b1) + a2 * b2) * ((c0 * c0 + c1 * c1) + c2 * c2) -
            ((b0 * c0 + b1 * c1) + b2 * c2) * ((a0 * c0 + a1 * c1) + a2 * c2)) +
          ((a0 * c0 + a1 * c1) + a2 * c2) * (((a0 * b0 + a1 * b1) + a2 * b2) * ((b0 * c0 + b1 * c1) + b2 * c2) -
            ((b0 * b0 + b1 * b1) + b2 * b2) * ((a0 * c0 + a1 * c1) + a2 * c2)) := by rw [hd]; ring
    rw [haa, hab, hac, hbb, hbc, hcc] at e
    linarith
  have h2 : (b1 * c2 - b2 * c1 - d * a0) ^ 2 + (b2 * c0 - b0 * c2 - d * a1) ^ 2 +
      (b0 * c1 - b1 * c0 - d * a2) ^ 2 = 0 := by
    have e : (b1 * c2 - b2 * c1 - d * a0) ^ 2 + (b2 * c0 - b0 * c2 - d * a1) ^ 2 +
        (b0 * c1 - b1 * c0 - d * a2) ^ 2 =
        ((b0 * b0 + b1 * b1) + b2 * b2) * ((c0 * c0 + c1 * c1) + c2 * c2) -
          ((b0 * c0 + b1 * c1) + b2 * c2) * ((b0 * c0 + b1 * c1) + b2 * c2) -
          2 * d * (a0 * (b1 * c2 - b2 * c1) + a1 * (b2 * c0 - b0 * c2) + a2 * (b0 * c1 - b1 * c0)) +
          (d * d) * ((a0 * a0 + a1 * a1) + a2 * a2) := by ring
    rw [e, ← hd, haa, hbb, hbc, hcc]
    linarith
  have s0 := sq_nonneg (b1 * c2 - b2 * c1 - d * a0)
  have s1 := sq_nonneg (b2 * c0 - b0 * c2 - d * a1)
  have s2 := sq_nonneg (b0 * c1 - b1 * c0 - d * a2)
  refine ⟨h1, ?_, ?_, ?_⟩
  · exact sub_eq_zero.1 (pow_eq_zero_iff (two_ne_zero) |>.1 (by linarith))
  · exact sub_eq_zero.1 (pow_eq_zero_iff (two_ne_zero) |>.1 (by linarith))
  · exact sub_eq_zero.1 (pow_eq_zero_iff (two_ne_zero) |>.1 (by linarith))

/-- The rows of the inverse: the transposed rotation, and `-Rᵀ t` in the last column. -/
def invRow {α : Type} [Add α] [Sub α] [Mul α] (z : α) (e : Fin 4 → Fin 4 → α) (r : Fin 3) (k : Fin 4) : α :=
  match k with
  | 0 => e 0 r.castSucc
  | 1 => e 1 r.castSucc
  | 2 => e 2 r.castSucc
  | 3 => z - gram e r.castSucc 3

/-- Over the reals: the adjugate of a rigid pose is its determinant times `invRow`, and the determinant is not zero. -/
theorem adj_real (f : Fin 4 → Fin 4 → ℝ) (h00 : gram f 0 0 = 1) (h01 : gram f 0 1 = 0) (h02 : gram f 0 2 = 0)
    (h11 : gram f 1 1 = 1) (h12 : gram f 1 2 = 0) (h22 : gram f 2 2 = 1)
    (b0 : f 3 0 = 0) (b1 : f 3 1 = 0) (b2 : f 3 2 = 0) (b3 : f 3 3 = 1) :
    det 0 f ≠ 0 ∧ ∀ (r : Fin 3) (k : Fin 4), adj f r k = det 0 f * invRow 0 f r k := by
  unfold gram at h00 h01 h02 h11 h12 h22
  obtain ⟨d, hd⟩ : ∃ d, d = f 0 0 * (f 1 1 * f 2 2 - f 2 1 * f 1 2) + f 1 0 * (f 2 1 * f 0 2 - f 0 1 * f 2 2) +
    f 2 0 * (f 0 1 * f 1 2 - f 1 1 * f 0 2) := ⟨_, rfl⟩
  have hdet : det 0 f = d := by
    simp only [det, adj, minor, Matrix.cons_val_zero, Matrix.cons_val_one, Matrix.cons_val, b0, b1, b2, b3, hd]
    ring
  obtain ⟨sq, x0, x1, x2⟩ := cross_eq (f 0 0) (f 1 0) (f 2 0) (f 0 1) (f 1 1) (f 2 1) (f 0 2) (f 1 2) (f 2 2) d hd
    h00 h01 h02 h11 h12 h22
  obtain ⟨-, y0, y1, y2⟩ := cross_eq (f 0 1) (f 1 1) (f 2 1) (f 0 2) (f 1 2) (f 2 2) (f 0 0) (f 1 0) (f 2 0) d
    (by rw [hd]; ring) h11 h12 (by linarith) h22 (by linarith) h00
  obtain ⟨-, z0, z1, z2⟩ := cross_eq (f 0 2) (f 1 2) (f 2 2) (f 0 0) (f 1 0) (f 2 0) (f 0 1) (f 1 1) (f 2 1) d
    (by rw [hd]; ring) h22 (by linarith) (by linarith) h00 h01 h11
  rw [hdet]
  refine ⟨fun h => by rw [h] at sq; norm_num at sq, fun r k => ?_⟩
  fin_cases r <;> fin_cases k <;>
    simp only [adj, minor, invRow, gram, Fin.castSucc, Fin.castAdd, Fin.castLE, Matrix.cons_val_zero, Matrix.cons_val_one,
      Matrix.cons_val, Fin.zero_eta, Fin.mk_one, Fin.reduceFinMk, b0, b1, b2, b3]
  · linear_combination x0
  · linear_combination x1
  · linear_combination x2
  · linear_combination -f 0 3 * x0 - f 1 3 * x1 - f 2 3 * x2
  · linear_combination y0
  · linear_combination y1
  · linear_combination y2
  · linear_combination -f 0 3 * y0 - f 1 3 * y1 - f 2 3 * y2
  · linear_combination z0
  · linear_combination z1
  · linear_combination z2
  · linear_combination -f 0 3 * z0 - f 1 3 * z1 - f 2 3 * z2

/-! ## From the extended reals to the reals -/

/-- A square is not negative. -/
theorem mul_self_nonneg (x : EReal) : 0 ≤ x * x := by
  induction x with
  | bot => rw [EReal.bot_mul_bot]; exact le_top
  | top => rw [EReal.top_mul_top]; exact le_top
  | coe r => rw [← EReal.coe_mul]; exact EReal.coe_nonneg.2 (_root_.mul_self_nonneg r)

/-- An extended real whose square is at most one is real. -/
theorem real_of_sq {x : EReal} (h : x * x ≤ 1) : ∃ r : ℝ, x = r := by
  induction x with
  | bot => rw [EReal.bot_mul_bot, top_le_iff] at h; exact absurd h (EReal.coe_ne_top 1)
  | top => rw [EReal.top_mul_top, top_le_iff] at h; exact absurd h (EReal.coe_ne_top 1)
  | coe r => exact ⟨r, rfl⟩

/-- An extended real of finite absolute value is real. -/
theorem real_of_abs {x : EReal} (h : max x (-x) < ⊤) : ∃ r : ℝ, x = r := by
  induction x with
  | bot => rw [EReal.neg_bot, max_eq_right bot_le] at h; exact absurd h (lt_irrefl _)
  | top => rw [max_eq_left le_top] at h; exact absurd h (lt_irrefl _)
  | coe r => exact ⟨r, rfl⟩

/-- Three extended reals whose squares sum to one are real. -/
theorem real_of_unit {a b c : EReal} (h : (a * a + b * b) + c * c = 1) :
    (∃ r : ℝ, a = r) ∧ (∃ r : ℝ, b = r) ∧ ∃ r : ℝ, c = r := by
  have pa := mul_self_nonneg a
  have pb := mul_self_nonneg b
  have pc := mul_self_nonneg c
  refine ⟨real_of_sq ?_, real_of_sq ?_, real_of_sq ?_⟩
  · rw [← h]; exact le_trans (le_add_of_nonneg_right pb) (le_add_of_nonneg_right pc)
  · rw [← h]; exact le_trans (le_add_of_nonneg_left pa) (le_add_of_nonneg_right pc)
  · rw [← h]; exact le_add_of_nonneg_left (add_nonneg pa pb)

/-- Every entry of a rigid pose is real. -/
theorem IsRigid.real {e : Fin 4 → Fin 4 → EReal} (h : IsRigid e) :
    ∃ f : Fin 4 → Fin 4 → ℝ, e = fun i j => (f i j : EReal) := by
  have key : ∀ i j, ∃ r : ℝ, e i j = r := by
    obtain ⟨a0, a1, a2⟩ := real_of_unit h.g00
    obtain ⟨b0, b1, b2⟩ := real_of_unit h.g11
    obtain ⟨c0, c1, c2⟩ := real_of_unit h.g22
    intro i j
    fin_cases i <;> fin_cases j
    · exact a0
    · exact b0
    · exact c0
    · exact real_of_abs h.t0
    · exact a1
    · exact b1
    · exact c1
    · exact real_of_abs h.t1
    · exact a2
    · exact b2
    · exact c2
    · exact real_of_abs h.t2
    · exact ⟨0, h.b0⟩
    · exact ⟨0, h.b1⟩
    · exact ⟨0, h.b2⟩
    · exact ⟨1, h.b3⟩
  choose f hf using key
  exact ⟨f, funext fun i => funext fun j => hf i j⟩

theorem gram_coe (f : Fin 4 → Fin 4 → ℝ) (i j : Fin 4) :
    gram (fun i j => (f i j : EReal)) i j = ((gram f i j : ℝ) : EReal) := by
  unfold gram; simp only [EReal.coe_add, EReal.coe_mul]

theorem minor_coe (f : Fin 4 → Fin 4 → ℝ) (a b c p q r : Fin 4) :
    minor (fun i j => (f i j : EReal)) a b c p q r = ((minor f a b c p q r : ℝ) : EReal) := by
  unfold minor; simp only [EReal.coe_add, EReal.coe_sub, EReal.coe_mul]

theorem adj_coe (f : Fin 4 → Fin 4 → ℝ) (r : Fin 3) (k : Fin 4) :
    adj (fun i j => (f i j : EReal)) r k = ((adj f r k : ℝ) : EReal) := by
  unfold adj
  fin_cases r <;> fin_cases k <;> simp [minor_coe]

theorem det_coe (f : Fin 4 → Fin 4 → ℝ) :
    det 0 (fun i j => (f i j : EReal)) = ((det 0 f : ℝ) : EReal) := by
  unfold det; simp only [adj_coe, EReal.coe_add, EReal.coe_mul, EReal.coe_zero]

theorem invRow_coe (f : Fin 4 → Fin 4 → ℝ) (r : Fin 3) (k : Fin 4) :
    invRow 0 (fun i j => (f i j : EReal)) r k = ((invRow 0 f r k : ℝ) : EReal) := by
  unfold invRow
  fin_cases k
  · rfl
  · rfl
  · rfl
  · simp only [gram_coe, EReal.coe_sub, EReal.coe_zero]

/-- The quotient of reals by a real that is not zero. -/
theorem div_coe (x d : ℝ) (h : d ≠ 0) : Ideal.div (x : EReal) (d : EReal) = ((x / d : ℝ) : EReal) := by
  unfold Ideal.div
  rw [if_neg (by exact_mod_cast h), ← EReal.coe_inv, ← EReal.coe_mul, div_eq_mul_inv]

/-- On a rigid pose the cofactor over the determinant is the transposed rotation, or `-Rᵀ t`. -/
theorem IsRigid.inverse {e : Fin 4 → Fin 4 → EReal} (h : IsRigid e) (r : Fin 3) (k : Fin 4) :
    Ideal.div (adj e r k) (det 0 e) = invRow 0 e r k := by
  obtain ⟨f, rfl⟩ := h.real
  have c0 : ∀ i j, gram (fun i j => (f i j : EReal)) i j = 0 → gram f i j = 0 := fun i j hh => by
    rw [gram_coe] at hh; exact_mod_cast hh
  have c1 : ∀ i j, gram (fun i j => (f i j : EReal)) i j = 1 → gram f i j = 1 := fun i j hh => by
    rw [gram_coe] at hh; exact_mod_cast hh
  obtain ⟨hd, ha⟩ := adj_real f (c1 _ _ h.g00) (c0 _ _ h.g01) (c0 _ _ h.g02) (c1 _ _ h.g11) (c0 _ _ h.g12)
    (c1 _ _ h.g22) (by exact_mod_cast h.b0) (by exact_mod_cast h.b1) (by exact_mod_cast h.b2)
    (by exact_mod_cast h.b3)
  rw [adj_coe, det_coe, invRow_coe, div_coe _ _ hd, ha, mul_div_cancel_left₀ _ hd]

/-! ## The length of a quaternion -/

/-- The square root of an extended real that is not negative is not negative. -/
theorem sqrt_nonneg {x : EReal} (h : 0 ≤ x) : 0 ≤ Ideal.sqrt x := by
  induction x with
  | bot => exact absurd h (by simp)
  | top => exact le_top
  | coe r =>
    have hr : ¬ r < 0 := not_lt.2 (EReal.coe_nonneg.1 h)
    show (0 : EReal) ≤ (if r < 0 then ⊥ else ((Real.sqrt r : ℝ) : EReal))
    rw [if_neg hr]
    exact EReal.coe_nonneg.2 (Real.sqrt_nonneg r)

/-- A product with the reciprocal is the quotient, by a sum of a root and a positive number. -/
theorem mul_recip (q s ε : EReal) (hs : 0 ≤ s) (hε : 0 < ε) :
    q * Ideal.div 1 (Ideal.sqrt s + ε) = Ideal.div q (Ideal.sqrt s + ε) := by
  have hn : Ideal.sqrt s + ε ≠ 0 :=
    ne_of_gt (lt_of_lt_of_le hε (le_add_of_nonneg_left (sqrt_nonneg hs)))
  unfold Ideal.div
  rw [if_neg hn, if_neg hn, one_mul]

/-! ## The constants of the two angles -/

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_pi : Ideal.ofBits .f32 0x40490FDB#32 = ((13176795 / 4194304 : ℝ) : EReal) := by
  simp [Ideal.ofBits, Ideal.ieee, -EReal.coe_mul]; norm_num

theorem ofBits_half_pi : Ideal.ofBits .f32 0x3FC90FDB#32 = ((13176795 / 8388608 : ℝ) : EReal) := by
  simp [Ideal.ofBits, Ideal.ieee, -EReal.coe_mul]; norm_num

theorem ofBits_eps_pos : 0 < Ideal.ofBits .f32 0x322BCC77#32 := by
  have h : Ideal.ofBits .f32 0x322BCC77#32 = ((11258999 / 1125899906842624 : ℝ) : EReal) := by
    simp [Ideal.ofBits, Ideal.ieee, -EReal.coe_mul]; norm_num
  rw [h]; exact EReal.coe_pos.2 (by norm_num)

/-- The azimuth of a column: the step folded to one factor, and the step in three operations. -/
theorem theta_eq (x : ℝ) :
    ((x : EReal) + Ideal.ofBits .f32 0x3F000000#32) *
        Ideal.div (Ideal.ofBits .f32 0x40000000#32 * Ideal.ofBits .f32 0x40490FDB#32) (Ideal.ofBits .f32 0x43800000#32) -
      Ideal.ofBits .f32 0x40490FDB#32 =
    Ideal.div ((x : EReal) + Ideal.ofBits .f32 0x3F000000#32) (Ideal.ofBits .f32 0x43800000#32) *
        Ideal.ofBits .f32 0x40000000#32 * Ideal.ofBits .f32 0x40490FDB#32 -
      Ideal.ofBits .f32 0x40490FDB#32 := by
  rw [ofBits_half, ofBits_two, ofBits_256, ofBits_pi, ← EReal.coe_add, ← EReal.coe_mul,
    div_coe _ _ (by norm_num), div_coe _ _ (by norm_num), ← EReal.coe_mul, ← EReal.coe_mul, ← EReal.coe_mul,
    ← EReal.coe_sub, ← EReal.coe_sub]
  congr 1; ring

/-- The elevation of a row, likewise; the kernel's row counts from the first row of its block, which is 0. -/
theorem phi_eq (x : ℝ) :
    (((x : EReal) + ((0 : ℝ) : EReal)) + Ideal.ofBits .f32 0x3F000000#32) *
        Ideal.div (Ideal.ofBits .f32 0x40490FDB#32) (Ideal.ofBits .f32 0x43000000#32) -
      Ideal.div (Ideal.ofBits .f32 0x40490FDB#32) (Ideal.ofBits .f32 0x40000000#32) =
    Ideal.div ((x : EReal) + Ideal.ofBits .f32 0x3F000000#32) (Ideal.ofBits .f32 0x43000000#32) *
        Ideal.ofBits .f32 0x40490FDB#32 - Ideal.ofBits .f32 0x3FC90FDB#32 := by
  rw [ofBits_half, ofBits_two, ofBits_128, ofBits_pi, ofBits_half_pi, ← EReal.coe_add, ← EReal.coe_add,
    ← EReal.coe_add, div_coe _ _ (by norm_num), div_coe _ _ (by norm_num), div_coe _ _ (by norm_num),
    ← EReal.coe_mul, ← EReal.coe_mul, ← EReal.coe_sub, ← EReal.coe_sub]
  congr 1; ring

/-! ## One pixel -/

/-- The azimuth of a column, from the float of its number. -/
def theta (x : EReal) : EReal :=
  Ideal.div (x + Ideal.ofBits .f32 0x3F000000#32) (Ideal.ofBits .f32 0x43800000#32) *
    Ideal.ofBits .f32 0x40000000#32 * Ideal.ofBits .f32 0x40490FDB#32 - Ideal.ofBits .f32 0x40490FDB#32

/-- The elevation of a row, from the float of its number. -/
def phi (x : EReal) : EReal :=
  Ideal.div (x + Ideal.ofBits .f32 0x3F000000#32) (Ideal.ofBits .f32 0x43000000#32) *
    Ideal.ofBits .f32 0x40490FDB#32 - Ideal.ofBits .f32 0x3FC90FDB#32

/-- The float of the number of a row or a column. -/
def count (n : Nat) : EReal := (((BitVec.ofNat 32 n).toInt : ℝ) : EReal)

/-- The view direction at azimuth `t` and elevation `u`. -/
def ray (t u : EReal) : Fin 3 → EReal :=
  ![Ideal.cos u * Ideal.sin t, Ideal.sin u, Ideal.cos u * Ideal.cos t]

/-- Coordinate `r` of the point `x` under the affine map `A`. -/
def affine (A : Fin 3 → Fin 4 → EReal) (x : Fin 3 → EReal) (r : Fin 3) : EReal :=
  ((x 0 * A r 0 + x 1 * A r 1) + x 2 * A r 2) + A r 3

/-- The sum of the squares of a quaternion. -/
def sumSq (q : Fin 4 → EReal) : EReal := ((q 0 * q 0 + q 1 * q 1) + q 2 * q 2) + q 3 * q 3

/-- Component `k` of the normalised quaternion. -/
def unitQ (q : Fin 4 → EReal) (k : Fin 4) : EReal :=
  Ideal.div (q k) (Ideal.sqrt (sumSq q) + Ideal.ofBits .f32 0x322BCC77#32)

/-- The twenty-four channels, from their six groups. -/
def channels {α : Type} (W C : Fin 3 → α) (Q : Fin 4 → α) (o k : α) (S : Fin 12 → α) : Fin 24 → α :=
  ![W 0, W 1, W 2, C 0, C 1, C 2, Q 0, Q 1, Q 2, Q 3, o, k,
    S 0, S 1, S 2, S 3, S 4, S 5, S 6, S 7, S 8, S 9, S 10, S 11]

/-- The channels of the pixel in row `h` and column `w`, for the inverse pose `A`. -/
def pixel (A : Fin 3 → Fin 4 → EReal) (h w : Nat) (d : EReal) (C : Fin 3 → EReal) (q : Fin 4 → EReal) (o k : EReal)
    (S : Fin 12 → EReal) : Fin 24 → EReal :=
  channels (affine A (fun j => d * ray (theta (count w)) (phi (count h)) j)) C (unitQ q) o k S

theorem sumSq_nonneg (q : Fin 4 → EReal) : 0 ≤ sumSq q :=
  add_nonneg (add_nonneg (add_nonneg (mul_self_nonneg _) (mul_self_nonneg _)) (mul_self_nonneg _)) (mul_self_nonneg _)

end Cert.Rigid
-- ==== Proof.Pix.lean ====
/-
The kernel's results at a pixel, in extended real arithmetic: each window's block is read off its argument, and the planes
are brought to the form shared with the reference.
-/
module

public import proofs.«01_k».proof.Proof.Arr
public import proofs.«01_k».proof.Proof.Rigid

@[expose] public section

set_option maxRecDepth 16384

noncomputable section

namespace Cert.KernelIdeal.Own

open Idealize.ShloMosaic Idealize.ShloMosaic.TcCoe Idealize.ShloMosaic.Tactic Idealize.ShloMosaic.ValueIdx
open Idealize.SL.Sem
open Cert.KernelIdeal Cert.KernelIdeal.Gen
open Cert.Rigid

section Blocks

variable {F : FTy → Type} [FloatOps F]
variable (m : (ℓ : Loc nD τ sig) → Buf (Elt F) ℓ) (c : Dev nD) (b : Fin 2)

/-- The poses' block is the whole array at every point. -/
theorem index0 (t : Fin cfg0.N) : win0_0.index t = fun _ => 0 := by
  rcases fin_N0 t with rfl | rfl <;> decide

theorem index1 (t : Fin cfg0.N) : win0_1.index t = fun a => if a.val = 0 then t.val else 0 := by
  rcases fin_N0 t with rfl | rfl <;> decide

theorem index2 (t : Fin cfg0.N) : win0_2.index t = fun a => if a.val = 0 then t.val else 0 := by
  rcases fin_N0 t with rfl | rfl <;> decide

theorem index3 (t : Fin cfg0.N) : win0_3.index t = fun a => if a.val = 0 then t.val else 0 := by
  rcases fin_N0 t with rfl | rfl <;> decide

theorem index4 (t : Fin cfg0.N) : win0_4.index t = fun a => if a.val = 0 then t.val else 0 := by
  rcases fin_N0 t with rfl | rfl <;> decide

theorem index5 (t : Fin cfg0.N) : win0_5.index t = fun a => if a.val = 0 then t.val else 0 := by
  rcases fin_N0 t with rfl | rfl <;> decide

theorem index6 (t : Fin cfg0.N) : win0_6.index t = fun a => if a.val = 0 then t.val else 0 := by
  rcases fin_N0 t with rfl | rfl <;> decide

/-- The block of the poses, read off the argument. -/
theorem iblk0_apply (t : Fin cfg0.N) (i : Fin 2) (v x y : Fin 4) :
    (iblk m c 0 t : Vec F S2x4x4x4 .f32) (ix4 i v x y)
      = (m ((c : Thread nD τ).loc main_arg6) : Vec F S2x4x4x4 .f32) (ix4 i v x y) := by
  have hi := index0 t
  unfold iblk
  rw [View.read_apply]
  show (m ((c : Thread nD τ).loc main_arg6) : Vec F S2x4x4x4 .f32) _ = _
  refine congrArg (m ((c : Thread nD τ).loc main_arg6) : Vec F S2x4x4x4 .f32) (funext fun a => Fin.ext ?_)
  match a with
  | ⟨0, _⟩ => show win0_0.index t 0 * 2 + 1 * i.val = i.val; rw [show win0_0.index t 0 = 0 from congrFun hi 0]; omega
  | ⟨1, _⟩ => show win0_0.index t 1 * 4 + 1 * v.val = v.val; rw [show win0_0.index t 1 = 0 from congrFun hi 1]; omega
  | ⟨2, _⟩ => show win0_0.index t 2 * 4 + 1 * x.val = x.val; rw [show win0_0.index t 2 = 0 from congrFun hi 2]; omega
  | ⟨3, _⟩ => show win0_0.index t 3 * 4 + 1 * y.val = y.val; rw [show win0_0.index t 3 = 0 from congrFun hi 3]; omega

/-- The block of argument 0 at batch `b`, read off the argument. -/
theorem iblk1_apply (v : Fin 4) (h : Fin 128) (w : Fin 256) :
    (iblk m c 1 (point b.val b.isLt) : Vec F S1x4x128x256 .f32) (ix4 0 v h w)
      = (m ((c : Thread nD τ).loc main_arg0) : Vec F S2x4x128x256 .f32) (ix4 b v h w) := by
  have hi := index1 (point b.val b.isLt)
  unfold iblk
  rw [View.read_apply]
  show (m ((c : Thread nD τ).loc main_arg0) : Vec F S2x4x128x256 .f32) _ = _
  refine congrArg (m ((c : Thread nD τ).loc main_arg0) : Vec F S2x4x128x256 .f32) (funext fun a => Fin.ext ?_)
  match a with
  | ⟨0, _⟩ => show win0_1.index _ 0 * 1 + 1 * 0 = b.val; rw [show win0_1.index _ 0 = b.val from congrFun hi 0]; omega
  | ⟨1, _⟩ => show win0_1.index _ 1 * 4 + 1 * v.val = v.val; rw [show win0_1.index _ 1 = 0 from congrFun hi 1]; omega
  | ⟨2, _⟩ => show win0_1.index _ 2 * 128 + 1 * h.val = h.val; rw [show win0_1.index _ 2 = 0 from congrFun hi 2]; omega
  | ⟨3, _⟩ => show win0_1.index _ 3 * 256 + 1 * w.val = w.val; rw [show win0_1.index _ 3 = 0 from congrFun hi 3]; omega

/-- The block of argument 1 at batch `b`, read off the argument. -/
theorem iblk2_apply (v : Fin 4) (k : Fin 3) (h : Fin 128) (w : Fin 256) :
    (iblk m c 2 (point b.val b.isLt) : Vec F S1x4x3x128x256 .f32) (ix5 0 v k h w)
      = (m ((c : Thread nD τ).loc main_arg1) : Vec F S2x4x3x128x256 .f32) (ix5 b v k h w) := by
  have hi := index2 (point b.val b.isLt)
  unfold iblk
  rw [View.read_apply]
  show (m ((c : Thread nD τ).loc main_arg1) : Vec F S2x4x3x128x256 .f32) _ = _
  refine congrArg (m ((c : Thread nD τ).loc main_arg1) : Vec F S2x4x3x128x256 .f32) (funext fun a => Fin.ext ?_)
  match a with
  | ⟨0, _⟩ => show win0_2.index _ 0 * 1 + 1 * 0 = b.val; rw [show win0_2.index _ 0 = b.val from congrFun hi 0]; omega
  | ⟨1, _⟩ => show win0_2.index _ 1 * 4 + 1 * v.val = v.val; rw [show win0_2.index _ 1 = 0 from congrFun hi 1]; omega
  | ⟨2, _⟩ => show win0_2.index _ 2 * 3 + 1 * k.val = k.val; rw [show win0_2.index _ 2 = 0 from congrFun hi 2]; omega
  | ⟨3, _⟩ => show win0_2.index _ 3 * 128 + 1 * h.val = h.val; rw [show win0_2.index _ 3 = 0 from congrFun hi 3]; omega
  | ⟨4, _⟩ => show win0_2.index _ 4 * 256 + 1 * w.val = w.val; rw [show win0_2.index _ 4 = 0 from congrFun hi 4]; omega

/-- The block of argument 2 at batch `b`, read off the argument. -/
theorem iblk3_apply (v : Fin 4) (k : Fin 4) (h : Fin 128) (w : Fin 256) :
    (iblk m c 3 (point b.val b.isLt) : Vec F S1x4x4x128x256 .f32) (ix5 0 v k h w)
      = (m ((c : Thread nD τ).loc main_arg2) : Vec F S2x4x4x128x256 .f32) (ix5 b v k h w) := by
  have hi := index3 (point b.val b.isLt)
  unfold iblk
  rw [View.read_apply]
  show (m ((c : Thread nD τ).loc main_arg2) : Vec F S2x4x4x128x256 .f32) _ = _
  refine congrArg (m ((c : Thread nD τ).loc main_arg2) : Vec F S2x4x4x128x256 .f32) (funext fun a => Fin.ext ?_)
  match a with
  | ⟨0, _⟩ => show win0_3.index _ 0 * 1 + 1 * 0 = b.val; rw [show win0_3.index _ 0 = b.val from congrFun hi 0]; omega
  | ⟨1, _⟩ => show win0_3.index _ 1 * 4 + 1 * v.val = v.val; rw [show win0_3.index _ 1 = 0 from congrFun hi 1]; omega
  | ⟨2, _⟩ => show win0_3.index _ 2 * 4 + 1 * k.val = k.val; rw [show win0_3.index _ 2 = 0 from congrFun hi 2]; omega
  | ⟨3, _⟩ => show win0_3.index _ 3 * 128 + 1 * h.val = h.val; rw [show win0_3.index _ 3 = 0 from congrFun hi 3]; omega
  | ⟨4, _⟩ => show win0_3.index _ 4 * 256 + 1 * w.val = w.val; rw [show win0_3.index _ 4 = 0 from congrFun hi 4]; omega

/-- The block of argument 3 at batch `b`, read off the argument. -/
theorem iblk4_apply (v : Fin 4) (h : Fin 128) (w : Fin 256) :
    (iblk m c 4 (point b.val b.isLt) : Vec F S1x4x128x256 .f32) (ix4 0 v h w)
      = (m ((c : Thread nD τ).loc main_arg3) : Vec F S2x4x128x256 .f32) (ix4 b v h w) := by
  have hi := index4 (point b.val b.isLt)
  unfold iblk
  rw [View.read_apply]
  show (m ((c : Thread nD τ).loc main_arg3) : Vec F S2x4x128x256 .f32) _ = _
  refine congrArg (m ((c : Thread nD τ).loc main_arg3) : Vec F S2x4x128x256 .f32) (funext fun a => Fin.ext ?_)
  match a with
  | ⟨0, _⟩ => show win0_4.index _ 0 * 1 + 1 * 0 = b.val; rw [show win0_4.index _ 0 = b.val from congrFun hi 0]; omega
  | ⟨1, _⟩ => show win0_4.index _ 1 * 4 + 1 * v.val = v.val; rw [show win0_4.index _ 1 = 0 from congrFun hi 1]; omega
  | ⟨2, _⟩ => show win0_4.index _ 2 * 128 + 1 * h.val = h.val; rw [show win0_4.index _ 2 = 0 from congrFun hi 2]; omega
  | ⟨3, _⟩ => show win0_4.index _ 3 * 256 + 1 * w.val = w.val; rw [show win0_4.index _ 3 = 0 from congrFun hi 3]; omega

/-- The block of argument 4 at batch `b`, read off the argument. -/
theorem iblk5_apply (v : Fin 4) (k : Fin 12) (h : Fin 128) (w : Fin 256) :
    (iblk m c 5 (point b.val b.isLt) : Vec F S1x4x12x128x256 .f32) (ix5 0 v k h w)
      = (m ((c : Thread nD τ).loc main_arg4) : Vec F S2x4x12x128x256 .f32) (ix5 b v k h w) := by
  have hi := index5 (point b.val b.isLt)
  unfold iblk
  rw [View.read_apply]
  show (m ((c : Thread nD τ).loc main_arg4) : Vec F S2x4x12x128x256 .f32) _ = _
  refine congrArg (m ((c : Thread nD τ).loc main_arg4) : Vec F S2x4x12x128x256 .f32) (funext fun a => Fin.ext ?_)
  match a with
  | ⟨0, _⟩ => show win0_5.index _ 0 * 1 + 1 * 0 = b.val; rw [show win0_5.index _ 0 = b.val from congrFun hi 0]; omega
  | ⟨1, _⟩ => show win0_5.index _ 1 * 4 + 1 * v.val = v.val; rw [show win0_5.index _ 1 = 0 from congrFun hi 1]; omega
  | ⟨2, _⟩ => show win0_5.index _ 2 * 12 + 1 * k.val = k.val; rw [show win0_5.index _ 2 = 0 from congrFun hi 2]; omega
  | ⟨3, _⟩ => show win0_5.index _ 3 * 128 + 1 * h.val = h.val; rw [show win0_5.index _ 3 = 0 from congrFun hi 3]; omega
  | ⟨4, _⟩ => show win0_5.index _ 4 * 256 + 1 * w.val = w.val; rw [show win0_5.index _ 4 = 0 from congrFun hi 4]; omega

/-- The block of argument 5 at batch `b`, read off the argument. -/
theorem iblk6_apply (v : Fin 4) (h : Fin 128) (w : Fin 256) :
    (iblk m c 6 (point b.val b.isLt) : Vec F S1x4x128x256 .f32) (ix4 0 v h w)
      = (m ((c : Thread nD τ).loc main_arg5) : Vec F S2x4x128x256 .f32) (ix4 b v h w) := by
  have hi := index6 (point b.val b.isLt)
  unfold iblk
  rw [View.read_apply]
  show (m ((c : Thread nD τ).loc main_arg5) : Vec F S2x4x128x256 .f32) _ = _
  refine congrArg (m ((c : Thread nD τ).loc main_arg5) : Vec F S2x4x128x256 .f32) (funext fun a => Fin.ext ?_)
  match a with
  | ⟨0, _⟩ => show win0_6.index _ 0 * 1 + 1 * 0 = b.val; rw [show win0_6.index _ 0 = b.val from congrFun hi 0]; omega
  | ⟨1, _⟩ => show win0_6.index _ 1 * 4 + 1 * v.val = v.val; rw [show win0_6.index _ 1 = 0 from congrFun hi 1]; omega
  | ⟨2, _⟩ => show win0_6.index _ 2 * 128 + 1 * h.val = h.val; rw [show win0_6.index _ 2 = 0 from congrFun hi 2]; omega
  | ⟨3, _⟩ => show win0_6.index _ 3 * 256 + 1 * w.val = w.val; rw [show win0_6.index _ 3 = 0 from congrFun hi 3]; omega

/-- The batch of a point. -/
theorem batch_point : batch (grid0.coords (point b.val b.isLt)) = b := by
  revert b; decide

end Blocks

variable (m : (ℓ : Loc nD τ sig) → Buf (Elt Ideal) ℓ) (c : Dev nD) (b : Fin 2)

/-- A column's number as a float. -/
theorem col_apply (h : Fin 128) (w : Fin 256) :
    sitofp (F := Ideal) .f32 (iota .tc S128x256 32 [1] iota_S128x256_d1_w32) (ix2 h w) = count w.val := by
  show (((iota .tc S128x256 32 [1] iota_S128x256_d1_w32 (ix2 h w)).toInt : ℝ) : EReal) = _
  rw [iota_single_apply]; rfl

/-- A row's number as a float. -/
theorem row_apply (h : Fin 128) (w : Fin 256) :
    sitofp (F := Ideal) .f32 (iota .tc S128x256 32 [0] iota_S128x256_d0_w32) (ix2 h w) = count h.val := by
  show (((iota .tc S128x256 32 [0] iota_S128x256_d0_w32 (ix2 h w)).toInt : ℝ) : EReal) = _
  rw [iota_single_apply]; rfl

/-- The kernel's azimuth. -/
theorem pay3_apply (h : Fin 128) (w : Fin 256) : k0_pay3 (F := Ideal) (ix2 h w) = theta (count w.val) := by
  refine Eq.trans ?_ (theta_eq _)
  unfold k0_pay3
  dsimp only
  rw [subf_apply, mulf_apply, addf_apply, col_apply]
  rfl

/-- The kernel's elevation. -/
theorem pay4_apply (i : grid0.Coords) (h : Fin 128) (w : Fin 256) : k0_pay4 (F := Ideal) i (ix2 h w) = phi (count h.val) := by
  have h0 : (i 2).val = 0 := by
    have hlt : (i 2).val < 1 := (i 2).isLt
    omega
  have hz : Scalar.sitofp (F := Ideal) .f32 (Scalar.muli (BitVec.ofNat 32 (i 2).val) 128#32) = ((0 : ℝ) : EReal) := by
    rw [h0]
    show ((((BitVec.ofNat 32 0 * 128#32).toInt : ℝ)) : EReal) = _
    rw [show (BitVec.ofNat 32 0 * 128#32).toInt = 0 by decide]; norm_num
  refine Eq.trans ?_ (phi_eq _)
  unfold k0_pay4
  dsimp only
  rw [subf_apply, mulf_apply, addf_apply, addf_apply, row_apply, hz]
  rfl

/-- The pose of view `v` of batch `b`. -/
def pose (x : Vec Ideal S2x4x4x4 .f32) (b : Fin 2) (v : Fin 4) : Fin 4 → Fin 4 → EReal := fun i j => x (ix4 b v i j)

section Planes

variable (i : grid0.Coords) (x0 : Vec Ideal S2x4x4x4 .f32) (x1 : Vec Ideal S1x4x128x256 .f32)
  (x3 : Vec Ideal S1x4x4x128x256 .f32) (v : Fin 4) (h : Fin 128) (w : Fin 256)

/-- A world coordinate, in extended reals. -/
theorem world_apply (r : Fin 3) :
    world x0 x1 i v r.castSucc (ix2 h w)
      = affine (invRow 0 (pose x0 (batch i) v))
          (fun j => x1 (ix4 0 v h w) * ray (theta (count w.val)) (phi (count h.val)) j) r := by
  have e9 : k0_pay9 i (flat x1 v) (ix2 h w) = x1 (ix4 0 v h w) * ray (theta (count w.val)) (phi (count h.val)) 0 := by
    show k0_pay8 (flat x1 v) (ix2 h w) * (Ideal.cos (k0_pay4 (F := Ideal) i (ix2 h w)) * Ideal.sin (k0_pay3 (F := Ideal) (ix2 h w))) = _
    rw [flat_apply, pay3_apply, pay4_apply]; rfl
  have e10 : k0_pay10 i (flat x1 v) (ix2 h w) = x1 (ix4 0 v h w) * ray (theta (count w.val)) (phi (count h.val)) 1 := by
    show k0_pay8 (flat x1 v) (ix2 h w) * Ideal.sin (k0_pay4 (F := Ideal) i (ix2 h w)) = _
    rw [flat_apply, pay4_apply]; rfl
  have e11 : k0_pay11 i (flat x1 v) (ix2 h w) = x1 (ix4 0 v h w) * ray (theta (count w.val)) (phi (count h.val)) 2 := by
    show k0_pay8 (flat x1 v) (ix2 h w) * (Ideal.cos (k0_pay4 (F := Ideal) i (ix2 h w)) * Ideal.cos (k0_pay3 (F := Ideal) (ix2 h w))) = _
    rw [flat_apply, pay3_apply, pay4_apply]; rfl
  have es : shift x0 i v r.castSucc = invRow 0 (pose x0 (batch i) v) r 3 := by
    unfold shift
    show Ideal.ofBits .f32 0x00000000#32 - ((word x0 i v 0 r.castSucc * word x0 i v 0 3 + word x0 i v 1 r.castSucc * word x0 i v 1 3) +
      word x0 i v 2 r.castSucc * word x0 i v 2 3) = _
    rw [Ideal.ofBits_zero_f32]
    simp only [word_eq]
    rfl
  unfold world
  show ((word x0 i v 0 r.castSucc * k0_pay9 i (flat x1 v) (ix2 h w) + word x0 i v 1 r.castSucc * k0_pay10 i (flat x1 v) (ix2 h w)) +
    word x0 i v 2 r.castSucc * k0_pay11 i (flat x1 v) (ix2 h w)) + shift x0 i v r.castSucc = _
  rw [e9, e10, e11, es, word_eq, word_eq, word_eq]
  unfold affine
  refine congrArg₂ (· + ·) (congrArg₂ (· + ·) (congrArg₂ (· + ·) (mul_comm _ _) (mul_comm _ _)) (mul_comm _ _)) rfl

/-- A quaternion component: the product with the reciprocal length is the quotient. -/
theorem quat_apply (k : Fin 4) : quat x3 v k (ix2 h w) = unitQ (fun j => x3 (ix5 0 v j h w)) k := by
  unfold quat
  have e : k0_pay27 (chan (K := 4) x3 v 0) (chan (K := 4) x3 v 1) (chan (K := 4) x3 v 2) (chan (K := 4) x3 v 3) (ix2 h w)
      = Ideal.div 1 (Ideal.sqrt (sumSq fun j => x3 (ix5 0 v j h w)) + Ideal.ofBits .f32 0x322BCC77#32) := by
    show Ideal.div (Ideal.ofBits .f32 0x3F800000#32) (Ideal.sqrt (sumSq fun j => chan2 (K := 4) x3 v j (ix2 h w)) +
      Ideal.ofBits .f32 0x322BCC77#32) = _
    simp only [Ideal.ofBits_one_f32, chan2_apply]
  rw [mulf_apply, e, chan2_apply]
  exact mul_recip _ _ _ (sumSq_nonneg _) ofBits_eps_pos

end Planes

/-- The kernel's fused result at a pixel. -/
theorem fused_pixel (v : Fin 4) (h : Fin 128) (w : Fin 256) (p : Fin 24) :
    fusedOut m c (ix3 b ⟨(v.val * 128 + h.val) * 256 + w.val, by have := v.isLt; have := h.isLt; have := w.isLt; omega⟩ p)
      = pixel (invRow 0 (pose (m ((c : Thread nD τ).loc main_arg6)) b v)) h.val w.val
          ((m ((c : Thread nD τ).loc main_arg0) : Vec Ideal S2x4x128x256 .f32) (ix4 b v h w))
          (fun k => (m ((c : Thread nD τ).loc main_arg1) : Vec Ideal S2x4x3x128x256 .f32) (ix5 b v k h w))
          (fun k => (m ((c : Thread nD τ).loc main_arg2) : Vec Ideal S2x4x4x128x256 .f32) (ix5 b v k h w))
          ((m ((c : Thread nD τ).loc main_arg3) : Vec Ideal S2x4x128x256 .f32) (ix4 b v h w))
          ((m ((c : Thread nD τ).loc main_arg5) : Vec Ideal S2x4x128x256 .f32) (ix4 b v h w))
          (fun k => (m ((c : Thread nD τ).loc main_arg4) : Vec Ideal S2x4x12x128x256 .f32) (ix5 b v k h w)) p := by
  rw [fusedOut_apply]
  have hw : ∀ r : Fin 3, world (iblk m c 0 (point b.val b.isLt)) (iblk m c 1 (point b.val b.isLt)) (grid0.coords (point b.val b.isLt)) v
        r.castSucc (ix2 h w)
      = affine (invRow 0 (pose (m ((c : Thread nD τ).loc main_arg6)) b v))
          (fun j => @HMul.hMul EReal EReal EReal _ ((m ((c : Thread nD τ).loc main_arg0) : Vec Ideal S2x4x128x256 .f32) (ix4 b v h w))
            (ray (theta (count w.val)) (phi (count h.val)) j)) r := fun r => by
    rw [world_apply, batch_point, iblk1_apply]
    refine congrArg (fun P => affine (invRow 0 P) _ r) (funext fun x => funext fun y => iblk0_apply m c _ b v x y)
  have hc : ∀ k : Fin 3, chan2 (K := 3) (iblk m c 2 (point b.val b.isLt)) v k (ix2 h w)
      = (m ((c : Thread nD τ).loc main_arg1) : Vec Ideal S2x4x3x128x256 .f32) (ix5 b v k h w) := fun k => by
    rw [chan2_apply]; exact iblk2_apply m c b v k h w
  have hq : ∀ k : Fin 4, quat (iblk m c 3 (point b.val b.isLt)) v k (ix2 h w)
      = unitQ (fun k => (m ((c : Thread nD τ).loc main_arg2) : Vec Ideal S2x4x4x128x256 .f32) (ix5 b v k h w)) k := fun k => by
    rw [quat_apply]
    exact congrArg (fun q => unitQ q k) (funext fun j => iblk3_apply m c b v j h w)
  have ho : k0_pay8 (flat (iblk m c 4 (point b.val b.isLt)) v) (ix2 h w)
      = (m ((c : Thread nD τ).loc main_arg3) : Vec Ideal S2x4x128x256 .f32) (ix4 b v h w) := by
    rw [flat_apply]; exact iblk4_apply m c b v h w
  have hk : k0_pay8 (flat (iblk m c 6 (point b.val b.isLt)) v) (ix2 h w)
      = (m ((c : Thread nD τ).loc main_arg5) : Vec Ideal S2x4x128x256 .f32) (ix4 b v h w) := by
    rw [flat_apply]; exact iblk6_apply m c b v h w
  have hs : ∀ k : Fin 12, chan2 (K := 12) (iblk m c 5 (point b.val b.isLt)) v k (ix2 h w)
      = (m ((c : Thread nD τ).loc main_arg4) : Vec Ideal S2x4x12x128x256 .f32) (ix5 b v k h w) := fun k => by
    rw [chan2_apply]; exact iblk5_apply m c b v k h w
  unfold pixel
  fin_cases p
  · exact hw 0
  · exact hw 1
  · exact hw 2
  · exact hc 0
  · exact hc 1
  · exact hc 2
  · exact hq 0
  · exact hq 1
  · exact hq 2
  · exact hq 3
  · exact ho
  · exact hk
  · exact hs 0
  · exact hs 1
  · exact hs 2
  · exact hs 3
  · exact hs 4
  · exact hs 5
  · exact hs 6
  · exact hs 7
  · exact hs 8
  · exact hs 9
  · exact hs 10
  · exact hs 11

/-- The kernel's mask at a pixel: the confidence and the opacity above their thresholds. -/
theorem mask_pixel (v : Fin 4) (h : Fin 128) (w : Fin 256) :
    maskOut m c (ix2 b ⟨(v.val * 128 + h.val) * 256 + w.val, by have := v.isLt; have := h.isLt; have := w.isLt; omega⟩)
      = IntOp.andi
          (Ideal.cmp .ogt ((m ((c : Thread nD τ).loc main_arg5) : Vec Ideal S2x4x128x256 .f32) (ix4 b v h w)) (Ideal.ofBits .f32 0x3DCCCCCD#32))
          (Ideal.cmp .ogt ((m ((c : Thread nD τ).loc main_arg3) : Vec Ideal S2x4x128x256 .f32) (ix4 b v h w)) (Ideal.ofBits .f32 0x3C23D70A#32)) := by
  rw [maskOut_apply, iblk6_apply, iblk4_apply]
  rfl

end Cert.KernelIdeal.Own
-- ==== Proof.RefRead.lean ====
/-
The reference's results at a pixel, in extended real arithmetic, in the form shared with the kernel: the inverse pose is the
cofactors over the determinant.
-/
module

public import proofs.«01_k».proof.Proof.Gen.ReferenceIdeal.Read
public import proofs.«01_k».proof.Proof.Rigid
public import Idealize.ShloMosaic.Lib.ValueIdx
public import Idealize.ShloMosaic.Lib.ValueIdxRank6

@[expose] public section

set_option maxRecDepth 16384

noncomputable section

namespace Cert.ReferenceIdeal.Own

open Idealize.ShloMosaic Idealize.ShloMosaic.TcCoe Idealize.ShloMosaic.ValueIdx
open Cert.ReferenceIdeal Cert.ReferenceIdeal.Gen Cert.ReferenceIdeal.Read
open Cert.Rigid

/-- Pixel `(v, h, w)` among the 131072 of a batch. -/
abbrev pix (v : Fin 4) (h : Fin 128) (w : Fin 256) : Fin 131072 :=
  ⟨(v.val * 128 + h.val) * 256 + w.val, by have := v.isLt; have := h.isLt; have := w.isLt; omega⟩

variable (x0 : Vec Ideal S2x4x128x256 .f32) (x1 : Vec Ideal S2x4x3x128x256 .f32) (x2 : Vec Ideal S2x4x4x128x256 .f32)
  (x3 : Vec Ideal S2x4x128x256 .f32) (x4 : Vec Ideal S2x4x12x128x256 .f32) (x5 : Vec Ideal S2x4x128x256 .f32)
  (x6 : Vec Ideal S2x4x4x4 .f32) (b : Fin 2) (v : Fin 4) (h : Fin 128) (w : Fin 256)

/-! ## The inverse pose -/

/-- The pose of view `v` of batch `b`. -/
def pose : Fin 4 → Fin 4 → EReal := fun i j => x6 (ix4 b v i j)

/-- An entry cut out of the poses and flattened. -/
theorem entry (i j : Fin 4) (hs : S2x4x4x4.Slices ![0, 0, i.val, j.val] S2x4x1x1) (hc : S2x4x1x1.ShapeCasts S2x4) :
    shapeCast S2x4 (extractStridedSlice S2x4x1x1 ![0, 0, i.val, j.val] x6 hs) hc (ix2 b v) = pose x6 b v i j := by
  refine (shapeCast_apply _ _ _ (ix4 b v 0 0) ?_).trans ?_
  · rw [Shape.rowMajor_val_four, Shape.rowMajor_val_two]
    show ((b.val * 4 + v.val) * 1 + 0) * 1 + 0 = b.val * 4 + v.val
    omega
  · exact extractStridedSlice_apply _ _ _ _ (ix4 b v i j) fun a => match a with
      | ⟨0, _⟩ => (Nat.zero_add _).symm
      | ⟨1, _⟩ => (Nat.zero_add _).symm
      | ⟨2, _⟩ => rfl
      | ⟨3, _⟩ => rfl

/-- The sixteen entries the reference cuts out. -/
def cut (i : S2x4.Idx) : Fin 4 → Fin 4 → EReal :=
  ![![val_main_v39 (F := Ideal) x6 i, val_main_v41 (F := Ideal) x6 i, val_main_v43 (F := Ideal) x6 i, val_main_v45 (F := Ideal) x6 i],
    ![val_main_v47 (F := Ideal) x6 i, val_main_v49 (F := Ideal) x6 i, val_main_v51 (F := Ideal) x6 i, val_main_v53 (F := Ideal) x6 i],
    ![val_main_v55 (F := Ideal) x6 i, val_main_v57 (F := Ideal) x6 i, val_main_v59 (F := Ideal) x6 i, val_main_v61 (F := Ideal) x6 i],
    ![val_main_v63 (F := Ideal) x6 i, val_main_v65 (F := Ideal) x6 i, val_main_v67 (F := Ideal) x6 i, val_main_v69 (F := Ideal) x6 i]]

theorem cut_eq : cut x6 (ix2 b v) = pose x6 b v := by
  funext i j
  fin_cases i <;> fin_cases j
  · exact entry x6 b v 0 0 Facts₀.slices_S2x4x4x4_S2x4x1x1_0_0_0_0 Facts₀.shapeCasts_S2x4x1x1_S2x4
  · exact entry x6 b v 0 1 Facts₀.slices_S2x4x4x4_S2x4x1x1_0_0_0_1 Facts₀.shapeCasts_S2x4x1x1_S2x4
  · exact entry x6 b v 0 2 Facts₀.slices_S2x4x4x4_S2x4x1x1_0_0_0_2 Facts₀.shapeCasts_S2x4x1x1_S2x4
  · exact entry x6 b v 0 3 Facts₀.slices_S2x4x4x4_S2x4x1x1_0_0_0_3 Facts₀.shapeCasts_S2x4x1x1_S2x4
  · exact entry x6 b v 1 0 Facts₀.slices_S2x4x4x4_S2x4x1x1_0_0_1_0 Facts₀.shapeCasts_S2x4x1x1_S2x4
  · exact entry x6 b v 1 1 Facts₀.slices_S2x4x4x4_S2x4x1x1_0_0_1_1 Facts₀.shapeCasts_S2x4x1x1_S2x4
  · exact entry x6 b v 1 2 Facts₀.slices_S2x4x4x4_S2x4x1x1_0_0_1_2 Facts₀.shapeCasts_S2x4x1x1_S2x4
  · exact entry x6 b v 1 3 Facts₀.slices_S2x4x4x4_S2x4x1x1_0_0_1_3 Facts₀.shapeCasts_S2x4x1x1_S2x4
  · exact entry x6 b v 2 0 Facts₀.slices_S2x4x4x4_S2x4x1x1_0_0_2_0 Facts₀.shapeCasts_S2x4x1x1_S2x4
  · exact entry x6 b v 2 1 Facts₀.slices_S2x4x4x4_S2x4x1x1_0_0_2_1 Facts₀.shapeCasts_S2x4x1x1_S2x4
  · exact entry x6 b v 2 2 Facts₀.slices_S2x4x4x4_S2x4x1x1_0_0_2_2 Facts₀.shapeCasts_S2x4x1x1_S2x4
  · exact entry x6 b v 2 3 Facts₀.slices_S2x4x4x4_S2x4x1x1_0_0_2_3 Facts₀.shapeCasts_S2x4x1x1_S2x4
  · exact entry x6 b v 3 0 Facts₀.slices_S2x4x4x4_S2x4x1x1_0_0_3_0 Facts₀.shapeCasts_S2x4x1x1_S2x4
  · exact entry x6 b v 3 1 Facts₀.slices_S2x4x4x4_S2x4x1x1_0_0_3_1 Facts₀.shapeCasts_S2x4x1x1_S2x4
  · exact entry x6 b v 3 2 Facts₀.slices_S2x4x4x4_S2x4x1x1_0_0_3_2 Facts₀.shapeCasts_S2x4x1x1_S2x4
  · exact entry x6 b v 3 3 Facts₀.slices_S2x4x4x4_S2x4x1x1_0_0_3_3 Facts₀.shapeCasts_S2x4x1x1_S2x4

/-- The twelve cofactors the reference computes. -/
def cofs (i : S2x4.Idx) : Fin 3 → Fin 4 → EReal :=
  ![![val_main_v83 (F := Ideal) x6 i, val_main_v98 (F := Ideal) x6 i, val_main_v112 (F := Ideal) x6 i, val_main_v127 (F := Ideal) x6 i],
    ![val_main_v142 (F := Ideal) x6 i, val_main_v156 (F := Ideal) x6 i, val_main_v171 (F := Ideal) x6 i, val_main_v185 (F := Ideal) x6 i],
    ![val_main_v199 (F := Ideal) x6 i, val_main_v214 (F := Ideal) x6 i, val_main_v228 (F := Ideal) x6 i, val_main_v243 (F := Ideal) x6 i]]

theorem cofs_eq (i : S2x4.Idx) : cofs x6 i = adj (cut x6 i) := by
  funext r k
  fin_cases r <;> fin_cases k <;> rfl

theorem det_eq (i : S2x4.Idx) : val_main_v252 (F := Ideal) x6 i = det 0 (cut x6 i) := by
  have hz : val_main_v245 (F := Ideal) i = (0 : EReal) := by
    rw [val_main_v245_apply]; exact Ideal.ofBits_zero_f32
  have ha := cofs_eq x6 i
  unfold det
  rw [← ha, ← hz]
  rfl

/-- A column appended to the shape of the views. -/
theorem col_bcast (y : Vec Ideal S2x4 .f32) (hb : S2x4.BroadcastsInDim S2x4x1 ![0, 1]) :
    broadcastInDim S2x4x1 ![0, 1] hb y (ix3 b v 0) = y (ix2 b v) :=
  broadcastInDim_apply _ hb y _ (ix2 b v) fun a => match a with
    | ⟨0, _⟩ => by show b.val = if (2 : Nat) = 1 then 0 else b.val; rw [if_neg (by decide)]
    | ⟨1, _⟩ => by show v.val = if (4 : Nat) = 1 then 0 else v.val; rw [if_neg (by decide)]

/-- Four columns joined, read at a column. -/
theorem row_concat (f : Fin 4 → Vec Ideal S2x4x1 .f32)
    (hc : Shape.Concatenates ((List.ofFn fun n : Fin 4 => (⟨S2x4x1, f n⟩ : (s : Shape) × (s.Idx → Elt Ideal .f32))).map (·.1)) S2x4x4 2) (k : Fin 4) :
    concatenate S2x4x4 2 (List.ofFn fun n : Fin 4 => (⟨S2x4x1, f n⟩ : (s : Shape) × (s.Idx → Elt Ideal .f32))) hc (ix3 b v k)
      = f k (ix3 b v 0) :=
  concatenate_ofFn_unit_apply (s₁ := S2x4x1) 2 f hc rfl rfl (ix3 b v k) k rfl (ix3 b v 0) fun a ha => match a with
    | ⟨0, _⟩ => rfl
    | ⟨1, _⟩ => rfl
    | ⟨2, _⟩ => absurd rfl ha

theorem row0 (k : Fin 4) : val_main_v257 (F := Ideal) x6 (ix3 b v k) = cofs x6 (ix2 b v) 0 k := by
  refine (row_concat b v ![val_main_v253 (F := Ideal) x6, val_main_v254 (F := Ideal) x6, val_main_v255 (F := Ideal) x6,
    val_main_v256 (F := Ideal) x6] _ k).trans ?_
  fin_cases k
  · exact col_bcast b v (val_main_v83 (F := Ideal) x6) Facts₀.bcast_S2x4_S2x4x1_0_1
  · exact col_bcast b v (val_main_v98 (F := Ideal) x6) Facts₀.bcast_S2x4_S2x4x1_0_1
  · exact col_bcast b v (val_main_v112 (F := Ideal) x6) Facts₀.bcast_S2x4_S2x4x1_0_1
  · exact col_bcast b v (val_main_v127 (F := Ideal) x6) Facts₀.bcast_S2x4_S2x4x1_0_1

theorem row1 (k : Fin 4) : val_main_v262 (F := Ideal) x6 (ix3 b v k) = cofs x6 (ix2 b v) 1 k := by
  refine (row_concat b v ![val_main_v258 (F := Ideal) x6, val_main_v259 (F := Ideal) x6, val_main_v260 (F := Ideal) x6,
    val_main_v261 (F := Ideal) x6] _ k).trans ?_
  fin_cases k
  · exact col_bcast b v (val_main_v142 (F := Ideal) x6) Facts₀.bcast_S2x4_S2x4x1_0_1
  · exact col_bcast b v (val_main_v156 (F := Ideal) x6) Facts₀.bcast_S2x4_S2x4x1_0_1
  · exact col_bcast b v (val_main_v171 (F := Ideal) x6) Facts₀.bcast_S2x4_S2x4x1_0_1
  · exact col_bcast b v (val_main_v185 (F := Ideal) x6) Facts₀.bcast_S2x4_S2x4x1_0_1

theorem row2 (k : Fin 4) : val_main_v267 (F := Ideal) x6 (ix3 b v k) = cofs x6 (ix2 b v) 2 k := by
  refine (row_concat b v ![val_main_v263 (F := Ideal) x6, val_main_v264 (F := Ideal) x6, val_main_v265 (F := Ideal) x6,
    val_main_v266 (F := Ideal) x6] _ k).trans ?_
  fin_cases k
  · exact col_bcast b v (val_main_v199 (F := Ideal) x6) Facts₀.bcast_S2x4_S2x4x1_0_1
  · exact col_bcast b v (val_main_v214 (F := Ideal) x6) Facts₀.bcast_S2x4_S2x4x1_0_1
  · exact col_bcast b v (val_main_v228 (F := Ideal) x6) Facts₀.bcast_S2x4_S2x4x1_0_1
  · exact col_bcast b v (val_main_v243 (F := Ideal) x6) Facts₀.bcast_S2x4_S2x4x1_0_1

/-- The three rows of cofactors joined. -/
theorem rows_apply (r : Fin 3) (k : Fin 4) : val_main_v271 (F := Ideal) x6 (ix4 b v r k) = cofs x6 (ix2 b v) r k := by
  refine (concatenate_ofFn_unit_apply (t := S2x4x3x4) (s₁ := S2x4x1x4) 2
    ![val_main_v268 (F := Ideal) x6, val_main_v269 (F := Ideal) x6, val_main_v270 (F := Ideal) x6] _ rfl rfl (ix4 b v r k) r rfl
    (ix4 b v 0 k) fun a ha => match a with
      | ⟨0, _⟩ => rfl
      | ⟨1, _⟩ => rfl
      | ⟨2, _⟩ => absurd rfl ha
      | ⟨3, _⟩ => rfl).trans ?_
  have hi : ∀ y : Vec Ideal S2x4x4 .f32, y (idx_main_v268 (ix4 b v 0 k)) = y (ix3 b v k) := fun y =>
    congrArg y (funext fun a => match a with | ⟨0, _⟩ => rfl | ⟨1, _⟩ => rfl | ⟨2, _⟩ => rfl)
  fin_cases r
  · exact (val_main_v268_apply x6 _).trans ((hi _).trans (row0 x6 b v k))
  · exact (val_main_v269_apply x6 _).trans ((hi _).trans (row1 x6 b v k))
  · exact (val_main_v270_apply x6 _).trans ((hi _).trans (row2 x6 b v k))

/-- The first three rows of the inverse: the cofactors over the determinant. -/
def inv : Fin 3 → Fin 4 → EReal := fun r k => Ideal.div (adj (pose x6 b v) r k) (det 0 (pose x6 b v))

theorem inv_apply (r : Fin 3) (k : Fin 4) : val_main_v274 (F := Ideal) x6 (ix4 b v r k) = inv x6 b v r k := by
  have hd : val_main_v273 (F := Ideal) x6 (ix4 b v r k) = det 0 (pose x6 b v) := by
    rw [val_main_v273_apply, val_main_v272_apply, ← cut_eq, ← det_eq]
    exact congrArg (val_main_v252 (F := Ideal) x6) (funext fun a => match a with | ⟨0, _⟩ => rfl | ⟨1, _⟩ => rfl)
  show Ideal.div (val_main_v271 (F := Ideal) x6 (ix4 b v r k)) (val_main_v273 (F := Ideal) x6 (ix4 b v r k)) = _
  rw [rows_apply, hd, cofs_eq, cut_eq]
  rfl

theorem rot_apply (r k : Fin 3) : val_main_v275 (F := Ideal) x6 (ix4 b v r k) = inv x6 b v r k.castSucc := by
  refine Eq.trans ?_ (inv_apply x6 b v r k.castSucc)
  exact extractStridedSlice_apply _ _ _ _ (ix4 b v r k.castSucc) fun a => match a with
    | ⟨0, _⟩ => (Nat.zero_add _).symm
    | ⟨1, _⟩ => (Nat.zero_add _).symm
    | ⟨2, _⟩ => (Nat.zero_add _).symm
    | ⟨3, _⟩ => (Nat.zero_add _).symm

theorem trans_apply (r : Fin 3) : val_main_v280 (F := Ideal) x6 (ix5 b v h w r) = inv x6 b v r 3 := by
  rw [val_main_v280_apply, val_main_v279_apply]
  refine (congrArg (val_main_v277 (F := Ideal) x6) (show _ = ix3 b v r from
    funext fun a => match a with | ⟨0, _⟩ => rfl | ⟨1, _⟩ => rfl | ⟨2, _⟩ => rfl)).trans ?_
  refine (shapeCast_apply _ _ _ (ix4 b v r 0) ?_).trans ?_
  · rw [Shape.rowMajor_val_four, Shape.rowMajor_val_three]
    show ((b.val * 4 + v.val) * 3 + r.val) * 1 + 0 = (b.val * 4 + v.val) * 3 + r.val
    omega
  refine Eq.trans ?_ (inv_apply x6 b v r 3)
  exact extractStridedSlice_apply _ _ _ _ (ix4 b v r 3) fun a => match a with
    | ⟨0, _⟩ => (Nat.zero_add _).symm
    | ⟨1, _⟩ => (Nat.zero_add _).symm
    | ⟨2, _⟩ => (Nat.zero_add _).symm
    | ⟨3, _⟩ => rfl

/-! ## The rays -/

/-- The reference's azimuth. -/
theorem azimuth : val_main_v21 (F := Ideal) (ix2 h w) = theta (count w.val) := by
  rw [val_main_v21_apply, val_main_v15_apply, val_main_v13_apply, val_main_v11_apply, val_main_v4_apply, val_main_v2_apply,
    val_main_v1_apply, val_main_v3_apply, val_main_v10_apply, val_main_v12_apply, val_main_v14_apply]
  rfl

/-- The reference's elevation. -/
theorem elevation : val_main_v20 (F := Ideal) (ix2 h w) = phi (count h.val) := by
  rw [val_main_v20_apply, val_main_v19_apply, val_main_v17_apply, val_main_v9_apply, val_main_v7_apply,
    val_main_v6_apply, val_main_v8_apply, val_main_v16_apply, val_main_v18_apply]
  rfl

theorem dirs_apply (k : Fin 3) : val_main_v32 (F := Ideal) (ix3 h w k) = ray (theta (count w.val)) (phi (count h.val)) k := by
  refine (concatenate_ofFn_unit_apply (t := S128x256x3) (s₁ := S128x256x1) 2
    ![val_main_v29 (F := Ideal), val_main_v30 (F := Ideal), val_main_v31 (F := Ideal)] _ rfl rfl (ix3 h w k) k rfl
    (ix3 h w 0) fun a ha => match a with
      | ⟨0, _⟩ => rfl
      | ⟨1, _⟩ => rfl
      | ⟨2, _⟩ => absurd rfl ha).trans ?_
  have hi : ∀ y : Vec Ideal S128x256 .f32, y (idx_main_v29 (ix3 h w 0)) = y (ix2 h w) := fun y =>
    congrArg y (funext fun a => match a with | ⟨0, _⟩ => rfl | ⟨1, _⟩ => rfl)
  have ha := azimuth h w
  have he := elevation h w
  rw [← ha, ← he]
  fin_cases k
  · exact (val_main_v29_apply _).trans (hi _)
  · exact (val_main_v30_apply _).trans (hi _)
  · exact (val_main_v31_apply _).trans (hi _)

/-- A point on its ray: the depth times the direction. -/
theorem point_apply (k : Fin 3) :
    val_main_v37 (F := Ideal) x0 (ix5 b v h w k)
      = @HMul.hMul EReal EReal EReal _ (x0 (ix4 b v h w)) (ray (theta (count w.val)) (phi (count h.val)) k) := by
  rw [val_main_v37_apply, val_main_v35_apply, val_main_v33_apply, val_main_v36_apply, val_main_v34_apply, ← dirs_apply]
  exact congrArg₂ (fun p q : EReal => p * q)
    (congrArg x0 (funext fun a => match a with | ⟨0, _⟩ => rfl | ⟨1, _⟩ => rfl | ⟨2, _⟩ => rfl | ⟨3, _⟩ => rfl))
    (congrArg (val_main_v32 (F := Ideal)) (funext fun a => match a with | ⟨0, _⟩ => rfl | ⟨1, _⟩ => rfl | ⟨2, _⟩ => rfl))

theorem world_apply (r : Fin 3) :
    val_main_v281 (F := Ideal) x0 x6 (ix5 b v h w r)
      = affine (inv x6 b v) (fun j => @HMul.hMul EReal EReal EReal _ (x0 (ix4 b v h w)) (ray (theta (count w.val)) (phi (count h.val)) j)) r := by
  have hl : ∀ k : Fin 3, lidx_main_v278 (ix5 b v h w r) k = ix5 b v h w k := fun k => funext fun a => match a with
    | ⟨0, _⟩ => rfl | ⟨1, _⟩ => rfl | ⟨2, _⟩ => rfl | ⟨3, _⟩ => rfl | ⟨4, _⟩ => rfl
  have hr : ∀ k : Fin 3, ridx_main_v278 (ix5 b v h w r) k = ix4 b v r k := fun k => funext fun a => match a with
    | ⟨0, _⟩ => rfl | ⟨1, _⟩ => rfl | ⟨2, _⟩ => rfl | ⟨3, _⟩ => rfl
  rw [val_main_v281_apply, val_main_v278_apply, trans_apply, Fin.sum_univ_three]
  simp only [hl, hr, point_apply, rot_apply]
  rfl

/-! ## The groups of channels -/

/-- A pixel's number in an array of pixels and channels. -/
theorem pix_num {K : Nat} (k : Fin K) :
    (((b.val * 4 + v.val) * 128 + h.val) * 256 + w.val) * K + k.val = (b.val * 131072 + (pix v h w).val) * K + k.val := by
  show _ = (b.val * 131072 + ((v.val * 128 + h.val) * 256 + w.val)) * K + k.val
  congr 2; omega

theorem means_apply (r : Fin 3) :
    val_main_v282 (F := Ideal) x0 x6 (ix3 b (pix v h w) r) = val_main_v281 (F := Ideal) x0 x6 (ix5 b v h w r) := by
  refine shapeCast_apply _ _ _ (ix5 b v h w r) ?_
  rw [Shape.rowMajor_val_five, Shape.rowMajor_val_three]
  exact pix_num b v h w r

theorem scales_apply (k : Fin 3) : val_main_v284 (F := Ideal) x1 (ix3 b (pix v h w) k) = x1 (ix5 b v k h w) := by
  refine (shapeCast_apply _ _ _ (ix5 b v h w k) ?_).trans ?_
  · rw [Shape.rowMajor_val_five, Shape.rowMajor_val_three]
    exact pix_num b v h w k
  · exact transpose_apply _ _ _ _ (ix5 b v k h w)
      (fun a => match a with | ⟨0, _⟩ => rfl | ⟨1, _⟩ => rfl | ⟨2, _⟩ => rfl | ⟨3, _⟩ => rfl | ⟨4, _⟩ => rfl)

theorem rots_apply (k : Fin 4) : val_main_v286 (F := Ideal) x2 (ix3 b (pix v h w) k) = x2 (ix5 b v k h w) := by
  refine (shapeCast_apply _ _ _ (ix5 b v h w k) ?_).trans ?_
  · rw [Shape.rowMajor_val_five, Shape.rowMajor_val_three]
    exact pix_num b v h w k
  · exact transpose_apply _ _ _ _ (ix5 b v k h w)
      (fun a => match a with | ⟨0, _⟩ => rfl | ⟨1, _⟩ => rfl | ⟨2, _⟩ => rfl | ⟨3, _⟩ => rfl | ⟨4, _⟩ => rfl)

theorem shs_apply (k : Fin 12) : val_main_v295 (F := Ideal) x4 (ix3 b (pix v h w) k) = x4 (ix5 b v k h w) := by
  refine (shapeCast_apply _ _ _ (ix5 b v h w k) ?_).trans ?_
  · rw [Shape.rowMajor_val_five, Shape.rowMajor_val_three]
    exact pix_num b v h w k
  · exact transpose_apply _ _ _ _ (ix5 b v k h w)
      (fun a => match a with | ⟨0, _⟩ => rfl | ⟨1, _⟩ => rfl | ⟨2, _⟩ => rfl | ⟨3, _⟩ => rfl | ⟨4, _⟩ => rfl)

/-- One value per pixel, flattened with a channel of size one. -/
theorem single_apply (x : Vec Ideal S2x4x128x256 .f32) (hc : S2x4x128x256.ShapeCasts S2x131072x1) :
    shapeCast S2x131072x1 x hc (ix3 b (pix v h w) 0) = x (ix4 b v h w) := by
  refine shapeCast_apply _ _ _ (ix4 b v h w) ?_
  rw [Shape.rowMajor_val_four, Shape.rowMajor_val_three]
  have := pix_num b v h w (0 : Fin 1)
  simpa using this

/-- The same, the channel dropped. -/
theorem single_flat (x : Vec Ideal S2x4x128x256 .f32) (hc : S2x4x128x256.ShapeCasts S2x131072x1) (hd : S2x131072x1.ShapeCasts S2x131072) :
    shapeCast S2x131072 (shapeCast S2x131072x1 x hc) hd (ix2 b (pix v h w)) = x (ix4 b v h w) := by
  refine (shapeCast_apply _ _ _ (ix3 b (pix v h w) 0) ?_).trans (single_apply b v h w x hc)
  rw [Shape.rowMajor_val_three, Shape.rowMajor_val_two]
  show (b.val * 131072 + (pix v h w).val) * 1 + 0 = b.val * 131072 + (pix v h w).val
  omega

theorem units_apply (k : Fin 4) :
    val_main_v291 (F := Ideal) x2 (ix3 b (pix v h w) k) = unitQ (fun j => x2 (ix5 b v j h w)) k := by
  have hs : val_main_call0_v1 (F := Ideal) x2 (ix2 b (pix v h w)) = sumSq (fun j => x2 (ix5 b v j h w)) := by
    have hi : ∀ j : Fin 4, idx_main_call0_v1 (ix2 b (pix v h w)) j = ix3 b (pix v h w) j := fun j => funext fun a => match a with
      | ⟨0, _⟩ => rfl | ⟨1, _⟩ => rfl | ⟨2, _⟩ => rfl
    rw [val_main_call0_v1_apply, val_main_call0_cst_apply, Fin.sum_univ_four]
    simp only [hi, val_main_call0_v0_apply, rots_apply]
    show Ideal.ofBits .f32 0x00000000#32 + _ = _
    rw [Ideal.ofBits_zero_f32, zero_add]
    rfl
  have hn : val_main_v290 (F := Ideal) x2 (ix3 b (pix v h w) k)
      = @HAdd.hAdd EReal EReal EReal _ (Ideal.sqrt (sumSq (fun j => x2 (ix5 b v j h w)))) (Ideal.ofBits .f32 0x322BCC77#32) := by
    rw [val_main_v290_apply, val_main_v289_apply, val_main_v287_apply, val_main_v288_apply, val_main_call0_v2_apply]
    rw [show idx_main_call0_v2 (idx_main_v290 (ix3 b (pix v h w) k)) = ix2 b (pix v h w) from
      funext fun a => match a with | ⟨0, _⟩ => rfl | ⟨1, _⟩ => rfl, hs, val_main_cst_9_apply]
    rfl
  rw [val_main_v291_apply, rots_apply, hn]
  rfl

/-! ## The results -/

/-- The reference's fused result at a pixel. -/
theorem fused_pixel (p : Fin 24) :
    val_main_v303 (F := Ideal) x0 x1 x2 x3 x4 x5 x6 (ix3 b (pix v h w) p)
      = pixel (inv x6 b v) h.val w.val (x0 (ix4 b v h w)) (fun k => x1 (ix5 b v k h w)) (fun k => x2 (ix5 b v k h w))
          (x3 (ix4 b v h w)) (x5 (ix4 b v h w)) (fun k => x4 (ix5 b v k h w)) p := by
  have hW : ∀ r : Fin 3, val_main_v303 (F := Ideal) x0 x1 x2 x3 x4 x5 x6 (ix3 b (pix v h w) ⟨0 + r.val, by omega⟩)
      = affine (inv x6 b v) (fun j => @HMul.hMul EReal EReal EReal _ (x0 (ix4 b v h w)) (ray (theta (count w.val)) (phi (count h.val)) j)) r :=
    fun r => Eq.trans (concatenate_apply_piece (t := S2x131072x24) 2 _ _ _ 0 (by show 0 < 6; decide) S2x131072x3 (val_main_v282 (F := Ideal) x0 x6) rfl rfl 0 rfl
      (ix3 b (pix v h w) r) (fun a ha => match a with | ⟨0, _⟩ => rfl | ⟨1, _⟩ => rfl | ⟨2, _⟩ => absurd rfl ha) rfl)
      ((means_apply x0 x6 b v h w r).trans (world_apply x0 x6 b v h w r))
  have hC : ∀ k : Fin 3, val_main_v303 (F := Ideal) x0 x1 x2 x3 x4 x5 x6 (ix3 b (pix v h w) ⟨3 + k.val, by omega⟩) = x1 (ix5 b v k h w) :=
    fun k => Eq.trans (concatenate_apply_piece (t := S2x131072x24) 2 _ _ _ 1 (by show 1 < 6; decide) S2x131072x3 (val_main_v284 (F := Ideal) x1) rfl rfl 3 rfl
      (ix3 b (pix v h w) k) (fun a ha => match a with | ⟨0, _⟩ => rfl | ⟨1, _⟩ => rfl | ⟨2, _⟩ => absurd rfl ha) rfl)
      (scales_apply x1 b v h w k)
  have hQ : ∀ k : Fin 4, val_main_v303 (F := Ideal) x0 x1 x2 x3 x4 x5 x6 (ix3 b (pix v h w) ⟨6 + k.val, by omega⟩)
      = unitQ (fun j => x2 (ix5 b v j h w)) k :=
    fun k => Eq.trans (concatenate_apply_piece (t := S2x131072x24) 2 _ _ _ 2 (by show 2 < 6; decide) S2x131072x4 (val_main_v291 (F := Ideal) x2) rfl rfl 6 rfl
      (ix3 b (pix v h w) k) (fun a ha => match a with | ⟨0, _⟩ => rfl | ⟨1, _⟩ => rfl | ⟨2, _⟩ => absurd rfl ha) rfl)
      (units_apply x2 b v h w k)
  have hO : val_main_v303 (F := Ideal) x0 x1 x2 x3 x4 x5 x6 (ix3 b (pix v h w) 10) = x3 (ix4 b v h w) :=
    Eq.trans (concatenate_apply_piece (t := S2x131072x24) 2 _ _ _ 3 (by show 3 < 6; decide) S2x131072x1 (val_main_v292 (F := Ideal) x3) rfl rfl 10 rfl
      (ix3 b (pix v h w) 0) (fun a ha => match a with | ⟨0, _⟩ => rfl | ⟨1, _⟩ => rfl | ⟨2, _⟩ => absurd rfl ha) rfl)
      (single_apply b v h w x3 _)
  have hK : val_main_v303 (F := Ideal) x0 x1 x2 x3 x4 x5 x6 (ix3 b (pix v h w) 11) = x5 (ix4 b v h w) :=
    Eq.trans (concatenate_apply_piece (t := S2x131072x24) 2 _ _ _ 4 (by show 4 < 6; decide) S2x131072x1 (val_main_v293 (F := Ideal) x5) rfl rfl 11 rfl
      (ix3 b (pix v h w) 0) (fun a ha => match a with | ⟨0, _⟩ => rfl | ⟨1, _⟩ => rfl | ⟨2, _⟩ => absurd rfl ha) rfl)
      (single_apply b v h w x5 _)
  have hS : ∀ k : Fin 12, val_main_v303 (F := Ideal) x0 x1 x2 x3 x4 x5 x6 (ix3 b (pix v h w) ⟨12 + k.val, by omega⟩) = x4 (ix5 b v k h w) :=
    fun k => Eq.trans (concatenate_apply_piece (t := S2x131072x24) 2 _ _ _ 5 (by show 5 < 6; decide) S2x131072x12 (val_main_v295 (F := Ideal) x4) rfl rfl 12 rfl
      (ix3 b (pix v h w) k) (fun a ha => match a with | ⟨0, _⟩ => rfl | ⟨1, _⟩ => rfl | ⟨2, _⟩ => absurd rfl ha) rfl)
      (shs_apply x4 b v h w k)
  unfold pixel
  fin_cases p
  · exact hW 0
  · exact hW 1
  · exact hW 2
  · exact hC 0
  · exact hC 1
  · exact hC 2
  · exact hQ 0
  · exact hQ 1
  · exact hQ 2
  · exact hQ 3
  · exact hO
  · exact hK
  · exact hS 0
  · exact hS 1
  · exact hS 2
  · exact hS 3
  · exact hS 4
  · exact hS 5
  · exact hS 6
  · exact hS 7
  · exact hS 8
  · exact hS 9
  · exact hS 10
  · exact hS 11

/-- The reference's mask at a pixel. -/
theorem mask_pixel :
    val_main_v302 (F := Ideal) x3 x5 (ix2 b (pix v h w))
      = IntOp.andi (Ideal.cmp .ogt (x5 (ix4 b v h w)) (Ideal.ofBits .f32 0x3DCCCCCD#32))
          (Ideal.cmp .ogt (x3 (ix4 b v h w)) (Ideal.ofBits .f32 0x3C23D70A#32)) := by
  have h5 : val_main_v296 (F := Ideal) x5 (ix2 b (pix v h w)) = x5 (ix4 b v h w) := single_flat b v h w x5 _ _
  have h3 : val_main_v299 (F := Ideal) x3 (ix2 b (pix v h w)) = x3 (ix4 b v h w) := single_flat b v h w x3 _ _
  rw [val_main_v302_apply, val_main_v298_apply, val_main_v301_apply, h5, h3, val_main_v297_apply, val_main_v300_apply]
  rfl

end Cert.ReferenceIdeal.Own
-- ==== Proof.Pre.lean ====
/-
The precondition read as a statement of the poses: it holds exactly when every pose is rigid.
-/
module

public import proofs.«01_k».proof.Defs
public import proofs.«01_k».proof.Proof.Gen.Pre_rigid_poses
public import proofs.«01_k».proof.Proof.Rigid
public import Idealize.ShloMosaic.Lib.Pipeline.Value
public import Idealize.ShloMosaic.Lib.ValueIdx

@[expose] public section

set_option maxRecDepth 16384

noncomputable section

namespace Cert.Pre_rigid_poses.Own

open Idealize.ShloMosaic Idealize.ShloMosaic.TcCoe Idealize.ShloMosaic.ValueIdx
open Cert.Pre_rigid_poses Cert.Pre_rigid_poses.Gen
open Cert.Rigid

/-- A conjunction of bits. -/
theorem andi_one (a b : BitVec 1) : IntOp.andi a b = 1#1 ↔ a = 1#1 ∧ b = 1#1 := by
  revert a b; decide

theorem oeq_one (x y : EReal) : Ideal.cmp .oeq x y = 1#1 ↔ x = y := by
  unfold Ideal.cmp
  by_cases h : x = y <;> simp [h]

theorem olt_one (x y : EReal) : Ideal.cmp .olt x y = 1#1 ↔ x < y := by
  unfold Ideal.cmp
  by_cases h : x < y <;> simp [h]

theorem ofBits_inf : Ideal.ofBits .f32 0x7F800000#32 = ⊤ := by
  simp [Ideal.ofBits, Ideal.ieee]

theorem slices (i j : Fin 4) : S2x4x4x4.Slices ![0, 0, i.val, j.val] S2x4x1x1 := by
  revert i j; decide

variable (x : Vec Ideal S2x4x4x4 .f32) (b : Fin 2) (v : Fin 4)

/-- An entry of a pose, as the precondition cuts it out. -/
def cut (i j : Fin 4) : EReal :=
  shapeCast S2x4 (extractStridedSlice S2x4x1x1 ![0, 0, i.val, j.val] x (slices i j)) Facts.shapeCasts_S2x4x1x1_S2x4 (ix2 b v)

theorem cut_eq : cut x b v = fun i j => x (ix4 b v i j) := by
  funext i j
  refine (shapeCast_apply _ _ _ (ix4 b v 0 0) ?_).trans ?_
  · rw [Shape.rowMajor_val_four, Shape.rowMajor_val_two]
    show ((b.val * 4 + v.val) * 1 + 0) * 1 + 0 = b.val * 4 + v.val
    omega
  · exact extractStridedSlice_apply _ _ _ _ (ix4 b v i j) fun a => match a with
      | ⟨0, _⟩ => (Nat.zero_add _).symm
      | ⟨1, _⟩ => (Nat.zero_add _).symm
      | ⟨2, _⟩ => rfl
      | ⟨3, _⟩ => rfl

/-- The precondition's bit for a pose with the entries `e`: thirteen comparisons. -/
def bit (e : Fin 4 → Fin 4 → EReal) : BitVec 1 :=
  let one := Ideal.ofBits .f32 0x3F800000#32
  let zero := Ideal.ofBits .f32 0x00000000#32
  let inf := Ideal.ofBits .f32 0x7F800000#32
  IntOp.andi (IntOp.andi (IntOp.andi (IntOp.andi (IntOp.andi (IntOp.andi (IntOp.andi (IntOp.andi (IntOp.andi (IntOp.andi
    (IntOp.andi (IntOp.andi
    (Ideal.cmp .oeq (gram e 0 0) one) (Ideal.cmp .oeq (gram e 0 1) zero)) (Ideal.cmp .oeq (gram e 0 2) zero))
    (Ideal.cmp .oeq (gram e 1 1) one)) (Ideal.cmp .oeq (gram e 1 2) zero)) (Ideal.cmp .oeq (gram e 2 2) one))
    (Ideal.cmp .oeq (e 3 0) zero)) (Ideal.cmp .oeq (e 3 1) zero)) (Ideal.cmp .oeq (e 3 2) zero)) (Ideal.cmp .oeq (e 3 3) one))
    (Ideal.cmp .olt (max (e 0 3) (-e 0 3)) inf)) (Ideal.cmp .olt (max (e 1 3) (-e 1 3)) inf)) (Ideal.cmp .olt (max (e 2 3) (-e 2 3)) inf)

theorem bit_one (e : Fin 4 → Fin 4 → EReal) (h : bit e = 1#1) : IsRigid e := by
  unfold bit at h
  simp only [andi_one, oeq_one, olt_one, ofBits_inf, Ideal.ofBits_zero_f32, Ideal.ofBits_one_f32] at h
  obtain ⟨⟨⟨⟨⟨⟨⟨⟨⟨⟨⟨⟨g00, g01⟩, g02⟩, g11⟩, g12⟩, g22⟩, b0⟩, b1⟩, b2⟩, b3⟩, t0⟩, t1⟩, t2⟩ := h
  exact ⟨g00, g01, g02, g11, g12, g22, b0, b1, b2, b3, t0, t1, t2⟩

/-- The precondition's result at a view is the bit of its pose. -/
theorem fn_apply (a0 : FVec Ideal S2x4x128x256 .f32) (a1 : FVec Ideal S2x4x3x128x256 .f32) (a2 : FVec Ideal S2x4x4x128x256 .f32)
    (a3 : FVec Ideal S2x4x128x256 .f32) (a4 : FVec Ideal S2x4x12x128x256 .f32) (a5 : FVec Ideal S2x4x128x256 .f32)
    (a7 a8 : _) :
    Cert.Pre_rigid_poses.fn (F := Ideal) a0 a1 a2 a3 a4 a5 x a7 a8 (ix2 b v) = bit (cut x b v) := rfl

end Cert.Pre_rigid_poses.Own

namespace Cert.KernelIdeal.Own

open Idealize.ShloMosaic Idealize.ShloMosaic.TcCoe Idealize.ShloMosaic.ValueIdx
open Cert.Pre_rigid_poses Cert.Pre_rigid_poses.Gen
open Cert.Rigid

/-- Under the precondition every pose is rigid. -/
theorem rigid_of_pre (m : (ℓ : Loc Cert.KernelIdeal.nD Cert.KernelIdeal.τ Cert.KernelIdeal.sig) → Buf (Elt Ideal) ℓ)
    (hp : Cert.Pre_KernelIdeal_rigid_poses m) (c : Dev Cert.KernelIdeal.nD) (b : Fin 2) (v : Fin 4) :
    IsRigid fun i j => (m ((c.tc : Thread Cert.KernelIdeal.nD Cert.KernelIdeal.τ).loc Cert.KernelIdeal.main_arg6) :
      Vec Ideal Cert.KernelIdeal.S2x4x4x4 .f32) (ix4 b v i j) := by
  have h := congrFun (hp c) (ix2 b v)
  rw [Cert.Pre_rigid_poses.Own.fn_apply, Cert.Pre_rigid_poses.Own.cut_eq] at h
  exact Cert.Pre_rigid_poses.Own.bit_one _ h

end Cert.KernelIdeal.Own
-- ==== Proof.Equal.lean ====
/-
The two programs' results are equal: at every pixel both are the same channels, and on rigid poses the two inverses agree.
-/
module

public import proofs.«01_k».proof.Proof.Pix
public import proofs.«01_k».proof.Proof.RefRead
public import proofs.«01_k».proof.Proof.Pre

@[expose] public section

set_option maxRecDepth 16384

noncomputable section

namespace Cert.KernelIdeal.Own

open Idealize.ShloMosaic Idealize.ShloMosaic.TcCoe Idealize.ShloMosaic.ValueIdx
open Cert.KernelIdeal Cert.KernelIdeal.Gen
open Cert.Rigid

/-- A number below 131072 is the pixel of its view, row and column. -/
theorem exists_pix (n : Fin 131072) : ∃ (v : Fin 4) (h : Fin 128) (w : Fin 256), n = Cert.ReferenceIdeal.Own.pix v h w := by
  have hn := n.isLt
  refine ⟨⟨n.val / 32768, by omega⟩, ⟨n.val / 256 % 128, by omega⟩, ⟨n.val % 256, by omega⟩, Fin.ext ?_⟩
  show n.val = (n.val / 32768 * 128 + n.val / 256 % 128) * 256 + n.val % 256
  omega

variable (m : (ℓ : Loc nD τ sig) → Buf (Elt Ideal) ℓ) (c : Dev nD)
  (x0 : Vec Ideal S2x4x128x256 .f32) (x1 : Vec Ideal S2x4x3x128x256 .f32) (x2 : Vec Ideal S2x4x4x128x256 .f32)
  (x3 : Vec Ideal S2x4x128x256 .f32) (x4 : Vec Ideal S2x4x12x128x256 .f32) (x5 : Vec Ideal S2x4x128x256 .f32)
  (x6 : Vec Ideal S2x4x4x4 .f32)

/-- The reference's fused result of the kernel's arguments is the kernel's, on rigid poses. -/
theorem fused_eq (hp : Cert.Pre_KernelIdeal_rigid_poses m)
    (h0 : x0 = m ((c.tc : Thread nD τ).loc main_arg0)) (h1 : x1 = m ((c.tc : Thread nD τ).loc main_arg1))
    (h2 : x2 = m ((c.tc : Thread nD τ).loc main_arg2)) (h3 : x3 = m ((c.tc : Thread nD τ).loc main_arg3))
    (h4 : x4 = m ((c.tc : Thread nD τ).loc main_arg4)) (h5 : x5 = m ((c.tc : Thread nD τ).loc main_arg5))
    (h6 : x6 = m ((c.tc : Thread nD τ).loc main_arg6)) :
    Cert.ReferenceIdeal.Read.val_main_v303 (F := Ideal) x0 x1 x2 x3 x4 x5 x6 = fusedOut m c := by
  funext j
  obtain ⟨b, n, p, rfl⟩ : ∃ (b : Fin 2) (n : Fin 131072) (p : Fin 24), j = ix3 b n p :=
    ⟨j 0, j 1, j 2, funext fun a => match a with | ⟨0, _⟩ => rfl | ⟨1, _⟩ => rfl | ⟨2, _⟩ => rfl⟩
  obtain ⟨v, h, w, rfl⟩ := exists_pix n
  have hi : Cert.ReferenceIdeal.Own.inv x6 b v = invRow 0 (pose x6 b v) := by
    have hr : IsRigid (pose x6 b v) := by rw [h6]; exact rigid_of_pre m hp c b v
    funext r k
    exact hr.inverse r k
  refine (Cert.ReferenceIdeal.Own.fused_pixel x0 x1 x2 x3 x4 x5 x6 b v h w p).trans ?_
  rw [hi]
  subst h0 h1 h2 h3 h4 h5 h6
  exact (fused_pixel m c b v h w p).symm

/-- The reference's mask of the kernel's arguments is the kernel's. -/
theorem mask_eq (h3 : x3 = m ((c.tc : Thread nD τ).loc main_arg3)) (h5 : x5 = m ((c.tc : Thread nD τ).loc main_arg5)) :
    Cert.ReferenceIdeal.Read.val_main_v302 (F := Ideal) x3 x5 = maskOut m c := by
  funext j
  obtain ⟨b, n, rfl⟩ : ∃ (b : Fin 2) (n : Fin 131072), j = ix2 b n :=
    ⟨j 0, j 1, funext fun a => match a with | ⟨0, _⟩ => rfl | ⟨1, _⟩ => rfl⟩
  obtain ⟨v, h, w, rfl⟩ := exists_pix n
  refine (Cert.ReferenceIdeal.Own.mask_pixel x3 x5 b v h w).trans ?_
  subst h3 h5
  exact (mask_pixel m c b v h w).symm

end Cert.KernelIdeal.Own
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_rigid_poses
public import proofs.«01_k».proof.Proof.Equal
public import Idealize.ShloMosaic.Lib.Claim
public import Idealize.ShloMosaic.Lib.Quiescent

@[expose] public section

noncomputable section

namespace Cert.Proof

open Idealize.ShloMosaic Idealize.ShloMosaic.StableHlo Idealize.SL.Sem

/-- The reference leaves its arguments and every counter as it found them. -/
theorem quiescent_reference : Cert.quiescent_ReferenceIdeal := fun m ρ _ =>
  (θ_run (Cert.ReferenceIdeal.defs (F := Ideal)) _ _).mono
    (fun r h => ⟨fun c => (h c).2.2, Idealize.ShloMosaic.sem_eq_zero_of_no_sems (by decide) r.2⟩)
    (Cert.ReferenceIdeal.Value.run (F := Ideal) m ρ)

/-- The kernel and the reference end with equal results, on rigid poses. -/
theorem algebraic : Cert.algebraic_KernelIdeal_ReferenceIdeal_pre_rigid_poses := fun m g m' g' hp ha =>
  ⟨Cert.KernelIdeal.Own.fusedOut m, Cert.KernelIdeal.Own.maskOut m,
    (θ_run (Cert.KernelIdeal.defs (F := Ideal)) _ _).mono (fun r h c => ⟨(h.1 c).1, (h.1 c).2, h.2 c⟩)
      (θ_run_and (Cert.KernelIdeal.Own.results m g) (Cert.KernelIdeal.Gen.unchanged m g)),
    (θ_run (Cert.ReferenceIdeal.defs (F := Ideal)) _ _).mono
      (fun r h c => by
        obtain ⟨h0, h1, h2, h3, h4, h5, h6, -, -⟩ := ha c
        refine ⟨(h c).1.trans ((Cert.ReferenceIdeal.Read.val_main_v303_eq (launchContents m' c)).trans ?_),
          (h c).2.1.trans ((Cert.ReferenceIdeal.Read.val_main_v302_eq (launchContents m' c)).trans ?_), (h c).2.2⟩
        · exact Cert.KernelIdeal.Own.fused_eq m c _ _ _ _ _ _ _ hp h0 h1 h2 h3 h4 h5 h6
        · exact Cert.KernelIdeal.Own.mask_eq m c _ _ h3 h5)
      (Cert.ReferenceIdeal.Value.run (F := Ideal) m' g')⟩

theorem claim : Cert.Claim :=
  ⟨Cert.Kernel.Gen.facts, Cert.KernelIdeal.Gen.facts, Cert.ReferenceIdeal.Gen.facts, Cert.Pre_rigid_poses.Gen.facts,
    fun m ρ _ => Cert.Kernel.Gen.frame m ρ, fun m ρ _ => Cert.KernelIdeal.Gen.frame m ρ, fun m ρ _ => Cert.KernelIdeal.Gen.frame m ρ,
    quiescent_reference, fun m ρ _ => quiescent_reference m ρ trivial, trivial, algebraic⟩

end Cert.Proof

end
